-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x3584 : Shape := ⟨3, ![6, 256, 3584]⟩
abbrev S1792x18944 : Shape := ⟨2, ![1792, 18944]⟩
abbrev S56x18944 : Shape := ⟨2, ![56, 18944]⟩
abbrev S3584x16 : Shape := ⟨2, ![3584, 16]⟩
abbrev S16x18944 : Shape := ⟨2, ![16, 18944]⟩
abbrev S1536x3584 : Shape := ⟨2, ![1536, 3584]⟩
abbrev S1536x18944 : Shape := ⟨2, ![1536, 18944]⟩
abbrev S12x128 : Shape := ⟨2, ![12, 128]⟩
abbrev S384x3584 : Shape := ⟨2, ![384, 3584]⟩
abbrev S1792x512 : Shape := ⟨2, ![1792, 512]⟩
abbrev S56x512 : Shape := ⟨2, ![56, 512]⟩
abbrev S16x512 : Shape := ⟨2, ![16, 512]⟩
abbrev S384x512 : Shape := ⟨2, ![384, 512]⟩
abbrev S16x128 : Shape := ⟨2, ![16, 128]⟩
abbrev S384x16 : Shape := ⟨2, ![384, 16]⟩
abbrev S3584x512 : Shape := ⟨2, ![3584, 512]⟩
abbrev S384x18944 : Shape := ⟨2, ![384, 18944]⟩
abbrev S384x128 : Shape := ⟨2, ![384, 128]⟩
abbrev S384 : Shape := ⟨1, ![384]⟩
abbrev S384x1 : Shape := ⟨2, ![384, 1]⟩
abbrev S128x128 : Shape := ⟨2, ![128, 128]⟩
abbrev S1x128 : Shape := ⟨2, ![1, 128]⟩
abbrev S32x128 : Shape := ⟨2, ![32, 128]⟩
abbrev S16x128x1 : Shape := ⟨3, ![16, 128, 1]⟩
abbrev S8x128 : Shape := ⟨2, ![8, 128]⟩

abbrev nBuf : Space → Nat
  | .hbm => 9
  | .vmem => 21
  | .smem => 0
  | _ => 0

abbrev bufTy : (tb : Table) → Fin (tcTables nBuf tb) → BufTy
  | .hbm, ⟨0, _⟩ => ⟨S6x256x3584, .bf16⟩
  | .hbm, ⟨1, _⟩ => ⟨S1792x18944, .i8⟩
  | .hbm, ⟨2, _⟩ => ⟨S56x18944, .f32⟩
  | .hbm, ⟨3, _⟩ => ⟨S3584x16, .bf16⟩
  | .hbm, ⟨4, _⟩ => ⟨S16x18944, .bf16⟩
  | .hbm, ⟨5, _⟩ => ⟨S1536x3584, .bf16⟩
  | .hbm, ⟨6, _⟩ => ⟨S1536x18944, .bf16⟩
  | .hbm, ⟨7, _⟩ => ⟨S1536x18944, .fp8e4m3⟩
  | .hbm, ⟨8, _⟩ => ⟨S12x128, .f32⟩
  | .local _ .vmem, ⟨0, _⟩ => ⟨S384x3584, .bf16⟩
  | .local _ .vmem, ⟨1, _⟩ => ⟨S384x3584, .bf16⟩
  | .local _ .vmem, ⟨2, _⟩ => ⟨S1792x512, .i8⟩
  | .local _ .vmem, ⟨3, _⟩ => ⟨S1792x512, .i8⟩
  | .local _ .vmem, ⟨4, _⟩ => ⟨S56x512, .f32⟩
  | .local _ .vmem, ⟨5, _⟩ => ⟨S56x512, .f32⟩
  | .local _ .vmem, ⟨6, _⟩ => ⟨S3584x16, .bf16⟩
  | .local _ .vmem, ⟨7, _⟩ => ⟨S16x512, .bf16⟩
  | .local _ .vmem, ⟨8, _⟩ => ⟨S16x512, .bf16⟩
  | .local _ .vmem, ⟨9, _⟩ => ⟨S384x512, .bf16⟩
  | .local _ .vmem, ⟨10, _⟩ => ⟨S384x512, .bf16⟩
  | .local _ .vmem, ⟨11, _⟩ => ⟨S384x512, .fp8e4m3⟩
  | .local _ .vmem, ⟨12, _⟩ => ⟨S384x512, .fp8e4m3⟩
  | .local _ .vmem, ⟨13, _⟩ => ⟨S12x128, .f32⟩
  | .local _ .vmem, ⟨14, _⟩ => ⟨S16x128, .bf16⟩
  | .local _ .vmem, ⟨15, _⟩ => ⟨S384x3584, .bf16⟩
  | .local _ .vmem, ⟨16, _⟩ => ⟨S384x16, .bf16⟩
  | .local _ .vmem, ⟨17, _⟩ => ⟨S3584x512, .bf16⟩
  | .local _ .vmem, ⟨18, _⟩ => ⟨S384x18944, .f32⟩
  | .local _ .vmem, ⟨19, _⟩ => ⟨S384x128, .f32⟩
  | .local _ .vmem, ⟨20, _⟩ => ⟨S384x128, .f32⟩
  | _, _ => ⟨S6x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![5, 37], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c0_i32_2 : BitVec 32 := 0#32
  let v7 : BitVec 1 := Scalar.cmpi .sgt arg0 c0_i32_2
  let arg1 : BitVec 32 := BitVec.ofNat 32 (i 1).val
  let c0_i32_3 : BitVec 32 := 0#32
  let v8 : BitVec 1 := Scalar.cmpi .eq arg1 c0_i32_3
  let v9 : BitVec 1 := Scalar.andi v7 v8
  let v10 : BitVec 32 := Scalar.extui v9
  let c0_i32_4 : BitVec 32 := 0#32
  let v11 : BitVec 1 := Scalar.cmpi .ne v10 c0_i32_4
  v11

def k0_off1 (i : grid0.Coords) (c0_i32_29 : BitVec 32) : Fin 2 → Nat :=
  let arg0 : BitVec 32 := BitVec.ofNat 32 (i 0).val
  let c1_i32_28 : BitVec 32 := 1#32
  let v111 : BitVec 32 := Scalar.subi arg0 c1_i32_28
  let c3_i32 : BitVec 32 := 3#32
  let v112 : BitVec 32 := Scalar.muli v111 c3_i32
  let v113 : BitVec 32 := Scalar.addi v112 c0_i32_29
  let v114 : Index := Scalar.indexCast v113
  let c0_30 : Index := 0#32
  ![v114.toNat, 0]
def k0_cond3 (i : grid0.Coords) : BitVec 1 :=
  let arg0 : BitVec 32 := BitVec.ofNat 32 (i 0).val
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .ne v13 c0_i32_6
  v14

def k0_off2 (i : grid0.Coords) (c0_i32_9 : BitVec 32) : Fin 2 → Nat :=
  let c0_10 : Index := 0#32
  let arg1 : BitVec 32 := BitVec.ofNat 32 (i 1).val
  let c512_i32 : BitVec 32 := 512#32
  let v0 : BitVec 32 := Scalar.muli arg1 c512_i32
  let v1 : BitVec 32 := v0
  let v19 : BitVec 32 := Scalar.addi v1 c0_i32_9
  let v20 : Index := Scalar.indexCast v19
  ![0, v20.toNat]
def k0_off3 (i : grid0.Coords) (c0_i32_27 : BitVec 32) : Fin 2 → Nat :=
  let c32_28 : Index := 32#32
  let arg1 : BitVec 32 := BitVec.ofNat 32 (i 1).val
  let c512_i32 : BitVec 32 := 512#32
  let v0 : BitVec 32 := Scalar.muli arg1 c512_i32
  let v1 : BitVec 32 := v0
  let v60 : BitVec 32 := Scalar.addi v1 c0_i32_27
  let v61 : Index := Scalar.indexCast v60
  ![32, v61.toNat]
def k0_off4 (i : grid0.Coords) (c0_i32_52 : BitVec 32) : Fin 2 → Nat :=
  let c64_53 : Index := 64#32
  let arg1 : BitVec 32 := BitVec.ofNat 32 (i 1).val
  let c512_i32 : BitVec 32 := 512#32
  let v0 : BitVec 32 := Scalar.muli arg1 c512_i32
  let v1 : BitVec 32 := v0
  let v101 : BitVec 32 := Scalar.addi v1 c0_i32_52
  let v102 : Index := Scalar.indexCast v101
  ![64, v102.toNat]
def k0_off5 (i : grid0.Coords) (c0_i32_77 : BitVec 32) : Fin 2 → Nat :=
  let c96_78 : Index := 96#32
  let arg1 : BitVec 32 := BitVec.ofNat 32 (i 1).val
  let c512_i32 : BitVec 32 := 512#32
  let v0 : BitVec 32 := Scalar.muli arg1 c512_i32
  let v1 : BitVec 32 := v0
  let v142 : BitVec 32 := Scalar.addi v1 c0_i32_77
  let v143 : Index := Scalar.indexCast v142
  ![96, v143.toNat]
def k0_off6 (i : grid0.Coords) (c0_i32_103 : BitVec 32) : Fin 2 → Nat :=
  let c128_104 : Index := 128#32
  let arg1 : BitVec 32 := BitVec.ofNat 32 (i 1).val
  let c512_i32 : BitVec 32 := 512#32
  let v0 : BitVec 32 := Scalar.muli arg1 c512_i32
  let v1 : BitVec 32 := v0
  let v183 : BitVec 32 := Scalar.addi v1 c0_i32_103
  let v184 : Index := Scalar.indexCast v183
  ![128, v184.toNat]
def k0_off7 (i : grid0.Coords) (c0_i32_128 : BitVec 32) : Fin 2 → Nat :=
  let c160_129 : Index := 160#32
  let arg1 : BitVec 32 := BitVec.ofNat 32 (i 1).val
  let c512_i32 : BitVec 32 := 512#32
  let v0 : BitVec 32 := Scalar.muli arg1 c512_i32
  let v1 : BitVec 32 := v0
  let v224 : BitVec 32 := Scalar.addi v1 c0_i32_128
  let v225 : Index := Scalar.indexCast v224
  ![160, v225.toNat]
def k0_off8 (i : grid0.Coords) (c0_i32_153 : BitVec 32) : Fin 2 → Nat :=
  let c192_154 : Index := 192#32
  let arg1 : BitVec 32 := BitVec.ofNat 32 (i 1).val
  let c512_i32 : BitVec 32 := 512#32
  let v0 : BitVec 32 := Scalar.muli arg1 c512_i32
  let v1 : BitVec 32 := v0
  let v265 : BitVec 32 := Scalar.addi v1 c0_i32_153
  let v266 : Index := Scalar.indexCast v265
  ![192, v266.toNat]
def k0_off9 (i : grid0.Coords) (c0_i32_178 : BitVec 32) : Fin 2 → Nat :=
  let c224_179 : Index := 224#32
  let arg1 : BitVec 32 := BitVec.ofNat 32 (i 1).val
  let c512_i32 : BitVec 32 := 512#32
  let v0 : BitVec 32 := Scalar.muli arg1 c512_i32
  let v1 : BitVec 32 := v0
  let v306 : BitVec 32 := Scalar.addi v1 c0_i32_178
  let v307 : Index := Scalar.indexCast v306
  ![224, v307.toNat]
def k0_off10 (i : grid0.Coords) (c0_i32_204 : BitVec 32) : Fin 2 → Nat :=
  let c256_205 : Index := 256#32
  let arg1 : BitVec 32 := BitVec.ofNat 32 (i 1).val
  let c512_i32 : BitVec 32 := 512#32
  let v0 : BitVec 32 := Scalar.muli arg1 c512_i32
  let v1 : BitVec 32 := v0
  let v347 : BitVec 32 := Scalar.addi v1 c0_i32_204
  let v348 : Index := Scalar.indexCast v347
  ![256, v348.toNat]
def k0_off11 (i : grid0.Coords) (c0_i32_229 : BitVec 32) : Fin 2 → Nat :=
  let c288_230 : Index := 288#32
  let arg1 : BitVec 32 := BitVec.ofNat 32 (i 1).val
  let c512_i32 : BitVec 32 := 512#32
  let v0 : BitVec 32 := Scalar.muli arg1 c512_i32
  let v1 : BitVec 32 := v0
  let v388 : BitVec 32 := Scalar.addi v1 c0_i32_229
  let v389 : Index := Scalar.indexCast v388
  ![288, v389.toNat]
def k0_off12 (i : grid0.Coords) (c0_i32_254 : BitVec 32) : Fin 2 → Nat :=
  let c320_255 : Index := 320#32
  let arg1 : BitVec 32 := BitVec.ofNat 32 (i 1).val
  let c512_i32 : BitVec 32 := 512#32
  let v0 : BitVec 32 := Scalar.muli arg1 c512_i32
  let v1 : BitVec 32 := v0
  let v429 : BitVec 32 := Scalar.addi v1 c0_i32_254
  let v430 : Index := Scalar.indexCast v429
  ![320, v430.toNat]
def k0_off13 (i : grid0.Coords) (c0_i32_279 : BitVec 32) : Fin 2 → Nat :=
  let c352_280 : Index := 352#32
  let arg1 : BitVec 32 := BitVec.ofNat 32 (i 1).val
  let c512_i32 : BitVec 32 := 512#32
  let v0 : BitVec 32 := Scalar.muli arg1 c512_i32
  let v1 : BitVec 32 := v0
  let v470 : BitVec 32 := Scalar.addi v1 c0_i32_279
  let v471 : Index := Scalar.indexCast v470
  ![352, v471.toNat]
def k0_cond4 (i : grid0.Coords) : BitVec 1 :=
  let arg0 : BitVec 32 := BitVec.ofNat 32 (i 0).val
  let c4_i32 : BitVec 32 := 4#32
  let v15 : BitVec 1 := Scalar.cmpi .slt arg0 c4_i32
  let v16 : BitVec 32 := Scalar.extui v15
  let c0_i32_7 : BitVec 32 := 0#32
  let v17 : BitVec 1 := Scalar.cmpi .ne v16 c0_i32_7
  v17

@[reducible] def k0_t1_loop : Scf.Loop 32 :=
  let c0_i32_11 : BitVec 32 := 0#32
  let c7_i32 : BitVec 32 := 7#32
  let v22 : BitVec 32 := Scalar.addi c0_i32_11 c7_i32
  let c1_i32 : BitVec 32 := 1#32
  ⟨c0_i32_11, v22, c1_i32⟩
def k0_mult2 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32 : BitVec 32 := 8#32
  let v52 : BitVec 32 := Scalar.muli arg17 c8_i32
  v52
def k0_off14 (k0_t1 : Fin k0_t1_loop.trips) : Fin 2 → Nat :=
  let c0_i32_11 : BitVec 32 := 0#32
  let c1_i32 : BitVec 32 := 1#32
  let arg17 : BitVec 32 := Scf.iv c0_i32_11 c1_i32 k0_t1
  let c8_i32 : BitVec 32 := 8#32
  let v52 : BitVec 32 := Scalar.muli arg17 c8_i32
  let v53 : BitVec 32 := v52
  let v54 : Index := Scalar.indexCast v53
  let c0_29 : Index := 0#32
  ![v54.toNat, 0]
def k0_mult3 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_30 : BitVec 32 := 8#32
  let v56 : BitVec 32 := Scalar.muli arg17 c8_i32_30
  let c0_i32_31 : BitVec 32 := 0#32
  let v57 : BitVec 32 := Scalar.addi v56 c0_i32_31
  let c32_i32 : BitVec 32 := 32#32
  let v58 : BitVec 32 := Scalar.muli v57 c32_i32
  v58
def k0_mult4 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_32 : BitVec 32 := 8#32
  let v60 : BitVec 32 := Scalar.muli arg17 c8_i32_32
  let c0_i32_33 : BitVec 32 := 0#32
  let v61 : BitVec 32 := Scalar.addi v60 c0_i32_33
  let c64_i32 : BitVec 32 := 64#32
  let v62 : BitVec 32 := Scalar.muli v61 c64_i32
  v62
def k0_off15 (k0_t1 : Fin k0_t1_loop.trips) (c0_i32_31 : BitVec 32) : Fin 2 → Nat :=
  let c0_i32_11 : BitVec 32 := 0#32
  let c1_i32 : BitVec 32 := 1#32
  let arg17 : BitVec 32 := Scf.iv c0_i32_11 c1_i32 k0_t1
  let c8_i32_30 : BitVec 32 := 8#32
  let v56 : BitVec 32 := Scalar.muli arg17 c8_i32_30
  let v57 : BitVec 32 := Scalar.addi v56 c0_i32_31
  let c32_i32 : BitVec 32 := 32#32
  let v58 : BitVec 32 := Scalar.muli v57 c32_i32
  let v59 : BitVec 32 := v58
  let v69 : Index := Scalar.indexCast v59
  let c0_34 : Index := 0#32
  ![v69.toNat, 0]
def k0_off16 (k0_t1 : Fin k0_t1_loop.trips) (c0_i32_33 : BitVec 32) (c0_i32_36 : BitVec 32) : Fin 2 → Nat :=
  let c0_i32_11 : BitVec 32 := 0#32
  let c1_i32 : BitVec 32 := 1#32
  let arg17 : BitVec 32 := Scf.iv c0_i32_11 c1_i32 k0_t1
  let c8_i32_32 : BitVec 32 := 8#32
  let v60 : BitVec 32 := Scalar.muli arg17 c8_i32_32
  let v61 : BitVec 32 := Scalar.addi v60 c0_i32_33
  let c64_i32 : BitVec 32 := 64#32
  let v62 : BitVec 32 := Scalar.muli v61 c64_i32
  let v63 : BitVec 32 := v62
  let v81 : BitVec 32 := Scalar.addi v63 c0_i32_36
  let v82 : Index := Scalar.indexCast v81
  let c0_37 : Index := 0#32
  ![v82.toNat, 0]
def k0_mult5 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_47 : BitVec 32 := 8#32
  let v128 : BitVec 32 := Scalar.muli arg17 c8_i32_47
  let c1_i32_48 : BitVec 32 := 1#32
  let v129 : BitVec 32 := Scalar.addi v128 c1_i32_48
  let c32_i32_49 : BitVec 32 := 32#32
  let v130 : BitVec 32 := Scalar.muli v129 c32_i32_49
  v130
def k0_mult6 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_50 : BitVec 32 := 8#32
  let v132 : BitVec 32 := Scalar.muli arg17 c8_i32_50
  let c1_i32_51 : BitVec 32 := 1#32
  let v133 : BitVec 32 := Scalar.addi v132 c1_i32_51
  let c64_i32_52 : BitVec 32 := 64#32
  let v134 : BitVec 32 := Scalar.muli v133 c64_i32_52
  v134
def k0_mult7 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_70 : BitVec 32 := 8#32
  let v200 : BitVec 32 := Scalar.muli arg17 c8_i32_70
  let c2_i32 : BitVec 32 := 2#32
  let v201 : BitVec 32 := Scalar.addi v200 c2_i32
  let c32_i32_71 : BitVec 32 := 32#32
  let v202 : BitVec 32 := Scalar.muli v201 c32_i32_71
  v202
def k0_mult8 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_72 : BitVec 32 := 8#32
  let v204 : BitVec 32 := Scalar.muli arg17 c8_i32_72
  let c2_i32_73 : BitVec 32 := 2#32
  let v205 : BitVec 32 := Scalar.addi v204 c2_i32_73
  let c64_i32_74 : BitVec 32 := 64#32
  let v206 : BitVec 32 := Scalar.muli v205 c64_i32_74
  v206
def k0_mult9 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_92 : BitVec 32 := 8#32
  let v272 : BitVec 32 := Scalar.muli arg17 c8_i32_92
  let c3_i32 : BitVec 32 := 3#32
  let v273 : BitVec 32 := Scalar.addi v272 c3_i32
  let c32_i32_93 : BitVec 32 := 32#32
  let v274 : BitVec 32 := Scalar.muli v273 c32_i32_93
  v274
def k0_mult10 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_94 : BitVec 32 := 8#32
  let v276 : BitVec 32 := Scalar.muli arg17 c8_i32_94
  let c3_i32_95 : BitVec 32 := 3#32
  let v277 : BitVec 32 := Scalar.addi v276 c3_i32_95
  let c64_i32_96 : BitVec 32 := 64#32
  let v278 : BitVec 32 := Scalar.muli v277 c64_i32_96
  v278
def k0_mult11 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_114 : BitVec 32 := 8#32
  let v344 : BitVec 32 := Scalar.muli arg17 c8_i32_114
  let c4_i32_115 : BitVec 32 := 4#32
  let v345 : BitVec 32 := Scalar.addi v344 c4_i32_115
  let c32_i32_116 : BitVec 32 := 32#32
  let v346 : BitVec 32 := Scalar.muli v345 c32_i32_116
  v346
def k0_mult12 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_117 : BitVec 32 := 8#32
  let v348 : BitVec 32 := Scalar.muli arg17 c8_i32_117
  let c4_i32_118 : BitVec 32 := 4#32
  let v349 : BitVec 32 := Scalar.addi v348 c4_i32_118
  let c64_i32_119 : BitVec 32 := 64#32
  let v350 : BitVec 32 := Scalar.muli v349 c64_i32_119
  v350
def k0_mult13 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_137 : BitVec 32 := 8#32
  let v416 : BitVec 32 := Scalar.muli arg17 c8_i32_137
  let c5_i32 : BitVec 32 := 5#32
  let v417 : BitVec 32 := Scalar.addi v416 c5_i32
  let c32_i32_138 : BitVec 32 := 32#32
  let v418 : BitVec 32 := Scalar.muli v417 c32_i32_138
  v418
def k0_mult14 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_139 : BitVec 32 := 8#32
  let v420 : BitVec 32 := Scalar.muli arg17 c8_i32_139
  let c5_i32_140 : BitVec 32 := 5#32
  let v421 : BitVec 32 := Scalar.addi v420 c5_i32_140
  let c64_i32_141 : BitVec 32 := 64#32
  let v422 : BitVec 32 := Scalar.muli v421 c64_i32_141
  v422
def k0_mult15 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_159 : BitVec 32 := 8#32
  let v488 : BitVec 32 := Scalar.muli arg17 c8_i32_159
  let c6_i32 : BitVec 32 := 6#32
  let v489 : BitVec 32 := Scalar.addi v488 c6_i32
  let c32_i32_160 : BitVec 32 := 32#32
  let v490 : BitVec 32 := Scalar.muli v489 c32_i32_160
  v490
def k0_mult16 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_161 : BitVec 32 := 8#32
  let v492 : BitVec 32 := Scalar.muli arg17 c8_i32_161
  let c6_i32_162 : BitVec 32 := 6#32
  let v493 : BitVec 32 := Scalar.addi v492 c6_i32_162
  let c64_i32_163 : BitVec 32 := 64#32
  let v494 : BitVec 32 := Scalar.muli v493 c64_i32_163
  v494
def k0_mult17 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_181 : BitVec 32 := 8#32
  let v560 : BitVec 32 := Scalar.muli arg17 c8_i32_181
  let c7_i32_182 : BitVec 32 := 7#32
  let v561 : BitVec 32 := Scalar.addi v560 c7_i32_182
  let c32_i32_183 : BitVec 32 := 32#32
  let v562 : BitVec 32 := Scalar.muli v561 c32_i32_183
  v562
def k0_mult18 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_184 : BitVec 32 := 8#32
  let v564 : BitVec 32 := Scalar.muli arg17 c8_i32_184
  let c7_i32_185 : BitVec 32 := 7#32
  let v565 : BitVec 32 := Scalar.addi v564 c7_i32_185
  let c64_i32_186 : BitVec 32 := 64#32
  let v566 : BitVec 32 := Scalar.muli v565 c64_i32_186
  v566
def k0_mult19 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_204 : BitVec 32 := 8#32
  let v632 : BitVec 32 := Scalar.muli arg17 c8_i32_204
  v632
def k0_off17 (k0_t1 : Fin k0_t1_loop.trips) : Fin 2 → Nat :=
  let c0_i32_11 : BitVec 32 := 0#32
  let c1_i32 : BitVec 32 := 1#32
  let arg17 : BitVec 32 := Scf.iv c0_i32_11 c1_i32 k0_t1
  let c8_i32_204 : BitVec 32 := 8#32
  let v632 : BitVec 32 := Scalar.muli arg17 c8_i32_204
  let v633 : BitVec 32 := v632
  let v634 : Index := Scalar.indexCast v633
  let c128 : Index := 128#32
  ![v634.toNat, 128]
def k0_mult20 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_205 : BitVec 32 := 8#32
  let v636 : BitVec 32 := Scalar.muli arg17 c8_i32_205
  let c0_i32_206 : BitVec 32 := 0#32
  let v637 : BitVec 32 := Scalar.addi v636 c0_i32_206
  let c32_i32_207 : BitVec 32 := 32#32
  let v638 : BitVec 32 := Scalar.muli v637 c32_i32_207
  v638
def k0_mult21 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_208 : BitVec 32 := 8#32
  let v640 : BitVec 32 := Scalar.muli arg17 c8_i32_208
  let c0_i32_209 : BitVec 32 := 0#32
  let v641 : BitVec 32 := Scalar.addi v640 c0_i32_209
  let c64_i32_210 : BitVec 32 := 64#32
  let v642 : BitVec 32 := Scalar.muli v641 c64_i32_210
  v642
def k0_off18 (k0_t1 : Fin k0_t1_loop.trips) (c0_i32_206 : BitVec 32) : Fin 2 → Nat :=
  let c0_i32_11 : BitVec 32 := 0#32
  let c1_i32 : BitVec 32 := 1#32
  let arg17 : BitVec 32 := Scf.iv c0_i32_11 c1_i32 k0_t1
  let c8_i32_205 : BitVec 32 := 8#32
  let v636 : BitVec 32 := Scalar.muli arg17 c8_i32_205
  let v637 : BitVec 32 := Scalar.addi v636 c0_i32_206
  let c32_i32_207 : BitVec 32 := 32#32
  let v638 : BitVec 32 := Scalar.muli v637 c32_i32_207
  let v639 : BitVec 32 := v638
  let v649 : Index := Scalar.indexCast v639
  let c128_211 : Index := 128#32
  ![v649.toNat, 128]
def k0_off19 (k0_t1 : Fin k0_t1_loop.trips) (c0_i32_209 : BitVec 32) (c0_i32_214 : BitVec 32) : Fin 2 → Nat :=
  let c0_i32_11 : BitVec 32 := 0#32
  let c1_i32 : BitVec 32 := 1#32
  let arg17 : BitVec 32 := Scf.iv c0_i32_11 c1_i32 k0_t1
  let c8_i32_208 : BitVec 32 := 8#32
  let v640 : BitVec 32 := Scalar.muli arg17 c8_i32_208
  let v641 : BitVec 32 := Scalar.addi v640 c0_i32_209
  let c64_i32_210 : BitVec 32 := 64#32
  let v642 : BitVec 32 := Scalar.muli v641 c64_i32_210
  let v643 : BitVec 32 := v642
  let v661 : BitVec 32 := Scalar.addi v643 c0_i32_214
  let v662 : Index := Scalar.indexCast v661
  let c128_215 : Index := 128#32
  ![v662.toNat, 128]
def k0_mult22 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_228 : BitVec 32 := 8#32
  let v708 : BitVec 32 := Scalar.muli arg17 c8_i32_228
  let c1_i32_229 : BitVec 32 := 1#32
  let v709 : BitVec 32 := Scalar.addi v708 c1_i32_229
  let c32_i32_230 : BitVec 32 := 32#32
  let v710 : BitVec 32 := Scalar.muli v709 c32_i32_230
  v710
def k0_mult23 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_231 : BitVec 32 := 8#32
  let v712 : BitVec 32 := Scalar.muli arg17 c8_i32_231
  let c1_i32_232 : BitVec 32 := 1#32
  let v713 : BitVec 32 := Scalar.addi v712 c1_i32_232
  let c64_i32_233 : BitVec 32 := 64#32
  let v714 : BitVec 32 := Scalar.muli v713 c64_i32_233
  v714
def k0_mult24 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_251 : BitVec 32 := 8#32
  let v780 : BitVec 32 := Scalar.muli arg17 c8_i32_251
  let c2_i32_252 : BitVec 32 := 2#32
  let v781 : BitVec 32 := Scalar.addi v780 c2_i32_252
  let c32_i32_253 : BitVec 32 := 32#32
  let v782 : BitVec 32 := Scalar.muli v781 c32_i32_253
  v782
def k0_mult25 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_254 : BitVec 32 := 8#32
  let v784 : BitVec 32 := Scalar.muli arg17 c8_i32_254
  let c2_i32_255 : BitVec 32 := 2#32
  let v785 : BitVec 32 := Scalar.addi v784 c2_i32_255
  let c64_i32_256 : BitVec 32 := 64#32
  let v786 : BitVec 32 := Scalar.muli v785 c64_i32_256
  v786
def k0_mult26 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_274 : BitVec 32 := 8#32
  let v852 : BitVec 32 := Scalar.muli arg17 c8_i32_274
  let c3_i32_275 : BitVec 32 := 3#32
  let v853 : BitVec 32 := Scalar.addi v852 c3_i32_275
  let c32_i32_276 : BitVec 32 := 32#32
  let v854 : BitVec 32 := Scalar.muli v853 c32_i32_276
  v854
def k0_mult27 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_277 : BitVec 32 := 8#32
  let v856 : BitVec 32 := Scalar.muli arg17 c8_i32_277
  let c3_i32_278 : BitVec 32 := 3#32
  let v857 : BitVec 32 := Scalar.addi v856 c3_i32_278
  let c64_i32_279 : BitVec 32 := 64#32
  let v858 : BitVec 32 := Scalar.muli v857 c64_i32_279
  v858
def k0_mult28 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_297 : BitVec 32 := 8#32
  let v924 : BitVec 32 := Scalar.muli arg17 c8_i32_297
  let c4_i32_298 : BitVec 32 := 4#32
  let v925 : BitVec 32 := Scalar.addi v924 c4_i32_298
  let c32_i32_299 : BitVec 32 := 32#32
  let v926 : BitVec 32 := Scalar.muli v925 c32_i32_299
  v926
def k0_mult29 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_300 : BitVec 32 := 8#32
  let v928 : BitVec 32 := Scalar.muli arg17 c8_i32_300
  let c4_i32_301 : BitVec 32 := 4#32
  let v929 : BitVec 32 := Scalar.addi v928 c4_i32_301
  let c64_i32_302 : BitVec 32 := 64#32
  let v930 : BitVec 32 := Scalar.muli v929 c64_i32_302
  v930
def k0_mult30 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_320 : BitVec 32 := 8#32
  let v996 : BitVec 32 := Scalar.muli arg17 c8_i32_320
  let c5_i32_321 : BitVec 32 := 5#32
  let v997 : BitVec 32 := Scalar.addi v996 c5_i32_321
  let c32_i32_322 : BitVec 32 := 32#32
  let v998 : BitVec 32 := Scalar.muli v997 c32_i32_322
  v998
def k0_mult31 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_323 : BitVec 32 := 8#32
  let v1000 : BitVec 32 := Scalar.muli arg17 c8_i32_323
  let c5_i32_324 : BitVec 32 := 5#32
  let v1001 : BitVec 32 := Scalar.addi v1000 c5_i32_324
  let c64_i32_325 : BitVec 32 := 64#32
  let v1002 : BitVec 32 := Scalar.muli v1001 c64_i32_325
  v1002
def k0_mult32 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_343 : BitVec 32 := 8#32
  let v1068 : BitVec 32 := Scalar.muli arg17 c8_i32_343
  let c6_i32_344 : BitVec 32 := 6#32
  let v1069 : BitVec 32 := Scalar.addi v1068 c6_i32_344
  let c32_i32_345 : BitVec 32 := 32#32
  let v1070 : BitVec 32 := Scalar.muli v1069 c32_i32_345
  v1070
def k0_mult33 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_346 : BitVec 32 := 8#32
  let v1072 : BitVec 32 := Scalar.muli arg17 c8_i32_346
  let c6_i32_347 : BitVec 32 := 6#32
  let v1073 : BitVec 32 := Scalar.addi v1072 c6_i32_347
  let c64_i32_348 : BitVec 32 := 64#32
  let v1074 : BitVec 32 := Scalar.muli v1073 c64_i32_348
  v1074
def k0_mult34 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_366 : BitVec 32 := 8#32
  let v1140 : BitVec 32 := Scalar.muli arg17 c8_i32_366
  let c7_i32_367 : BitVec 32 := 7#32
  let v1141 : BitVec 32 := Scalar.addi v1140 c7_i32_367
  let c32_i32_368 : BitVec 32 := 32#32
  let v1142 : BitVec 32 := Scalar.muli v1141 c32_i32_368
  v1142
def k0_mult35 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_369 : BitVec 32 := 8#32
  let v1144 : BitVec 32 := Scalar.muli arg17 c8_i32_369
  let c7_i32_370 : BitVec 32 := 7#32
  let v1145 : BitVec 32 := Scalar.addi v1144 c7_i32_370
  let c64_i32_371 : BitVec 32 := 64#32
  let v1146 : BitVec 32 := Scalar.muli v1145 c64_i32_371
  v1146
def k0_mult36 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_389 : BitVec 32 := 8#32
  let v1212 : BitVec 32 := Scalar.muli arg17 c8_i32_389
  v1212
def k0_off20 (k0_t1 : Fin k0_t1_loop.trips) : Fin 2 → Nat :=
  let c0_i32_11 : BitVec 32 := 0#32
  let c1_i32 : BitVec 32 := 1#32
  let arg17 : BitVec 32 := Scf.iv c0_i32_11 c1_i32 k0_t1
  let c8_i32_389 : BitVec 32 := 8#32
  let v1212 : BitVec 32 := Scalar.muli arg17 c8_i32_389
  let v1213 : BitVec 32 := v1212
  let v1214 : Index := Scalar.indexCast v1213
  let c256 : Index := 256#32
  ![v1214.toNat, 256]
def k0_mult37 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_390 : BitVec 32 := 8#32
  let v1216 : BitVec 32 := Scalar.muli arg17 c8_i32_390
  let c0_i32_391 : BitVec 32 := 0#32
  let v1217 : BitVec 32 := Scalar.addi v1216 c0_i32_391
  let c32_i32_392 : BitVec 32 := 32#32
  let v1218 : BitVec 32 := Scalar.muli v1217 c32_i32_392
  v1218
def k0_mult38 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_393 : BitVec 32 := 8#32
  let v1220 : BitVec 32 := Scalar.muli arg17 c8_i32_393
  let c0_i32_394 : BitVec 32 := 0#32
  let v1221 : BitVec 32 := Scalar.addi v1220 c0_i32_394
  let c64_i32_395 : BitVec 32 := 64#32
  let v1222 : BitVec 32 := Scalar.muli v1221 c64_i32_395
  v1222
def k0_off21 (k0_t1 : Fin k0_t1_loop.trips) (c0_i32_391 : BitVec 32) : Fin 2 → Nat :=
  let c0_i32_11 : BitVec 32 := 0#32
  let c1_i32 : BitVec 32 := 1#32
  let arg17 : BitVec 32 := Scf.iv c0_i32_11 c1_i32 k0_t1
  let c8_i32_390 : BitVec 32 := 8#32
  let v1216 : BitVec 32 := Scalar.muli arg17 c8_i32_390
  let v1217 : BitVec 32 := Scalar.addi v1216 c0_i32_391
  let c32_i32_392 : BitVec 32 := 32#32
  let v1218 : BitVec 32 := Scalar.muli v1217 c32_i32_392
  let v1219 : BitVec 32 := v1218
  let v1229 : Index := Scalar.indexCast v1219
  let c256_396 : Index := 256#32
  ![v1229.toNat, 256]
def k0_off22 (k0_t1 : Fin k0_t1_loop.trips) (c0_i32_394 : BitVec 32) (c0_i32_399 : BitVec 32) : Fin 2 → Nat :=
  let c0_i32_11 : BitVec 32 := 0#32
  let c1_i32 : BitVec 32 := 1#32
  let arg17 : BitVec 32 := Scf.iv c0_i32_11 c1_i32 k0_t1
  let c8_i32_393 : BitVec 32 := 8#32
  let v1220 : BitVec 32 := Scalar.muli arg17 c8_i32_393
  let v1221 : BitVec 32 := Scalar.addi v1220 c0_i32_394
  let c64_i32_395 : BitVec 32 := 64#32
  let v1222 : BitVec 32 := Scalar.muli v1221 c64_i32_395
  let v1223 : BitVec 32 := v1222
  let v1241 : BitVec 32 := Scalar.addi v1223 c0_i32_399
  let v1242 : Index := Scalar.indexCast v1241
  let c256_400 : Index := 256#32
  ![v1242.toNat, 256]
def k0_mult39 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_413 : BitVec 32 := 8#32
  let v1288 : BitVec 32 := Scalar.muli arg17 c8_i32_413
  let c1_i32_414 : BitVec 32 := 1#32
  let v1289 : BitVec 32 := Scalar.addi v1288 c1_i32_414
  let c32_i32_415 : BitVec 32 := 32#32
  let v1290 : BitVec 32 := Scalar.muli v1289 c32_i32_415
  v1290
def k0_mult40 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_416 : BitVec 32 := 8#32
  let v1292 : BitVec 32 := Scalar.muli arg17 c8_i32_416
  let c1_i32_417 : BitVec 32 := 1#32
  let v1293 : BitVec 32 := Scalar.addi v1292 c1_i32_417
  let c64_i32_418 : BitVec 32 := 64#32
  let v1294 : BitVec 32 := Scalar.muli v1293 c64_i32_418
  v1294
def k0_mult41 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_436 : BitVec 32 := 8#32
  let v1360 : BitVec 32 := Scalar.muli arg17 c8_i32_436
  let c2_i32_437 : BitVec 32 := 2#32
  let v1361 : BitVec 32 := Scalar.addi v1360 c2_i32_437
  let c32_i32_438 : BitVec 32 := 32#32
  let v1362 : BitVec 32 := Scalar.muli v1361 c32_i32_438
  v1362
def k0_mult42 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_439 : BitVec 32 := 8#32
  let v1364 : BitVec 32 := Scalar.muli arg17 c8_i32_439
  let c2_i32_440 : BitVec 32 := 2#32
  let v1365 : BitVec 32 := Scalar.addi v1364 c2_i32_440
  let c64_i32_441 : BitVec 32 := 64#32
  let v1366 : BitVec 32 := Scalar.muli v1365 c64_i32_441
  v1366
def k0_mult43 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_459 : BitVec 32 := 8#32
  let v1432 : BitVec 32 := Scalar.muli arg17 c8_i32_459
  let c3_i32_460 : BitVec 32 := 3#32
  let v1433 : BitVec 32 := Scalar.addi v1432 c3_i32_460
  let c32_i32_461 : BitVec 32 := 32#32
  let v1434 : BitVec 32 := Scalar.muli v1433 c32_i32_461
  v1434
def k0_mult44 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_462 : BitVec 32 := 8#32
  let v1436 : BitVec 32 := Scalar.muli arg17 c8_i32_462
  let c3_i32_463 : BitVec 32 := 3#32
  let v1437 : BitVec 32 := Scalar.addi v1436 c3_i32_463
  let c64_i32_464 : BitVec 32 := 64#32
  let v1438 : BitVec 32 := Scalar.muli v1437 c64_i32_464
  v1438
def k0_mult45 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_482 : BitVec 32 := 8#32
  let v1504 : BitVec 32 := Scalar.muli arg17 c8_i32_482
  let c4_i32_483 : BitVec 32 := 4#32
  let v1505 : BitVec 32 := Scalar.addi v1504 c4_i32_483
  let c32_i32_484 : BitVec 32 := 32#32
  let v1506 : BitVec 32 := Scalar.muli v1505 c32_i32_484
  v1506
def k0_mult46 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_485 : BitVec 32 := 8#32
  let v1508 : BitVec 32 := Scalar.muli arg17 c8_i32_485
  let c4_i32_486 : BitVec 32 := 4#32
  let v1509 : BitVec 32 := Scalar.addi v1508 c4_i32_486
  let c64_i32_487 : BitVec 32 := 64#32
  let v1510 : BitVec 32 := Scalar.muli v1509 c64_i32_487
  v1510
def k0_mult47 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_505 : BitVec 32 := 8#32
  let v1576 : BitVec 32 := Scalar.muli arg17 c8_i32_505
  let c5_i32_506 : BitVec 32 := 5#32
  let v1577 : BitVec 32 := Scalar.addi v1576 c5_i32_506
  let c32_i32_507 : BitVec 32 := 32#32
  let v1578 : BitVec 32 := Scalar.muli v1577 c32_i32_507
  v1578
def k0_mult48 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_508 : BitVec 32 := 8#32
  let v1580 : BitVec 32 := Scalar.muli arg17 c8_i32_508
  let c5_i32_509 : BitVec 32 := 5#32
  let v1581 : BitVec 32 := Scalar.addi v1580 c5_i32_509
  let c64_i32_510 : BitVec 32 := 64#32
  let v1582 : BitVec 32 := Scalar.muli v1581 c64_i32_510
  v1582
def k0_mult49 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_528 : BitVec 32 := 8#32
  let v1648 : BitVec 32 := Scalar.muli arg17 c8_i32_528
  let c6_i32_529 : BitVec 32 := 6#32
  let v1649 : BitVec 32 := Scalar.addi v1648 c6_i32_529
  let c32_i32_530 : BitVec 32 := 32#32
  let v1650 : BitVec 32 := Scalar.muli v1649 c32_i32_530
  v1650
def k0_mult50 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_531 : BitVec 32 := 8#32
  let v1652 : BitVec 32 := Scalar.muli arg17 c8_i32_531
  let c6_i32_532 : BitVec 32 := 6#32
  let v1653 : BitVec 32 := Scalar.addi v1652 c6_i32_532
  let c64_i32_533 : BitVec 32 := 64#32
  let v1654 : BitVec 32 := Scalar.muli v1653 c64_i32_533
  v1654
def k0_mult51 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_551 : BitVec 32 := 8#32
  let v1720 : BitVec 32 := Scalar.muli arg17 c8_i32_551
  let c7_i32_552 : BitVec 32 := 7#32
  let v1721 : BitVec 32 := Scalar.addi v1720 c7_i32_552
  let c32_i32_553 : BitVec 32 := 32#32
  let v1722 : BitVec 32 := Scalar.muli v1721 c32_i32_553
  v1722
def k0_mult52 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_554 : BitVec 32 := 8#32
  let v1724 : BitVec 32 := Scalar.muli arg17 c8_i32_554
  let c7_i32_555 : BitVec 32 := 7#32
  let v1725 : BitVec 32 := Scalar.addi v1724 c7_i32_555
  let c64_i32_556 : BitVec 32 := 64#32
  let v1726 : BitVec 32 := Scalar.muli v1725 c64_i32_556
  v1726
def k0_mult53 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_574 : BitVec 32 := 8#32
  let v1792 : BitVec 32 := Scalar.muli arg17 c8_i32_574
  v1792
def k0_off23 (k0_t1 : Fin k0_t1_loop.trips) : Fin 2 → Nat :=
  let c0_i32_11 : BitVec 32 := 0#32
  let c1_i32 : BitVec 32 := 1#32
  let arg17 : BitVec 32 := Scf.iv c0_i32_11 c1_i32 k0_t1
  let c8_i32_574 : BitVec 32 := 8#32
  let v1792 : BitVec 32 := Scalar.muli arg17 c8_i32_574
  let v1793 : BitVec 32 := v1792
  let v1794 : Index := Scalar.indexCast v1793
  let c384 : Index := 384#32
  ![v1794.toNat, 384]
def k0_mult54 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_575 : BitVec 32 := 8#32
  let v1796 : BitVec 32 := Scalar.muli arg17 c8_i32_575
  let c0_i32_576 : BitVec 32 := 0#32
  let v1797 : BitVec 32 := Scalar.addi v1796 c0_i32_576
  let c32_i32_577 : BitVec 32 := 32#32
  let v1798 : BitVec 32 := Scalar.muli v1797 c32_i32_577
  v1798
def k0_mult55 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_578 : BitVec 32 := 8#32
  let v1800 : BitVec 32 := Scalar.muli arg17 c8_i32_578
  let c0_i32_579 : BitVec 32 := 0#32
  let v1801 : BitVec 32 := Scalar.addi v1800 c0_i32_579
  let c64_i32_580 : BitVec 32 := 64#32
  let v1802 : BitVec 32 := Scalar.muli v1801 c64_i32_580
  v1802
def k0_off24 (k0_t1 : Fin k0_t1_loop.trips) (c0_i32_576 : BitVec 32) : Fin 2 → Nat :=
  let c0_i32_11 : BitVec 32 := 0#32
  let c1_i32 : BitVec 32 := 1#32
  let arg17 : BitVec 32 := Scf.iv c0_i32_11 c1_i32 k0_t1
  let c8_i32_575 : BitVec 32 := 8#32
  let v1796 : BitVec 32 := Scalar.muli arg17 c8_i32_575
  let v1797 : BitVec 32 := Scalar.addi v1796 c0_i32_576
  let c32_i32_577 : BitVec 32 := 32#32
  let v1798 : BitVec 32 := Scalar.muli v1797 c32_i32_577
  let v1799 : BitVec 32 := v1798
  let v1809 : Index := Scalar.indexCast v1799
  let c384_581 : Index := 384#32
  ![v1809.toNat, 384]
def k0_off25 (k0_t1 : Fin k0_t1_loop.trips) (c0_i32_579 : BitVec 32) (c0_i32_584 : BitVec 32) : Fin 2 → Nat :=
  let c0_i32_11 : BitVec 32 := 0#32
  let c1_i32 : BitVec 32 := 1#32
  let arg17 : BitVec 32 := Scf.iv c0_i32_11 c1_i32 k0_t1
  let c8_i32_578 : BitVec 32 := 8#32
  let v1800 : BitVec 32 := Scalar.muli arg17 c8_i32_578
  let v1801 : BitVec 32 := Scalar.addi v1800 c0_i32_579
  let c64_i32_580 : BitVec 32 := 64#32
  let v1802 : BitVec 32 := Scalar.muli v1801 c64_i32_580
  let v1803 : BitVec 32 := v1802
  let v1821 : BitVec 32 := Scalar.addi v1803 c0_i32_584
  let v1822 : Index := Scalar.indexCast v1821
  let c384_585 : Index := 384#32
  ![v1822.toNat, 384]
def k0_mult56 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_598 : BitVec 32 := 8#32
  let v1868 : BitVec 32 := Scalar.muli arg17 c8_i32_598
  let c1_i32_599 : BitVec 32 := 1#32
  let v1869 : BitVec 32 := Scalar.addi v1868 c1_i32_599
  let c32_i32_600 : BitVec 32 := 32#32
  let v1870 : BitVec 32 := Scalar.muli v1869 c32_i32_600
  v1870
def k0_mult57 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_601 : BitVec 32 := 8#32
  let v1872 : BitVec 32 := Scalar.muli arg17 c8_i32_601
  let c1_i32_602 : BitVec 32 := 1#32
  let v1873 : BitVec 32 := Scalar.addi v1872 c1_i32_602
  let c64_i32_603 : BitVec 32 := 64#32
  let v1874 : BitVec 32 := Scalar.muli v1873 c64_i32_603
  v1874
def k0_mult58 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_621 : BitVec 32 := 8#32
  let v1940 : BitVec 32 := Scalar.muli arg17 c8_i32_621
  let c2_i32_622 : BitVec 32 := 2#32
  let v1941 : BitVec 32 := Scalar.addi v1940 c2_i32_622
  let c32_i32_623 : BitVec 32 := 32#32
  let v1942 : BitVec 32 := Scalar.muli v1941 c32_i32_623
  v1942
def k0_mult59 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_624 : BitVec 32 := 8#32
  let v1944 : BitVec 32 := Scalar.muli arg17 c8_i32_624
  let c2_i32_625 : BitVec 32 := 2#32
  let v1945 : BitVec 32 := Scalar.addi v1944 c2_i32_625
  let c64_i32_626 : BitVec 32 := 64#32
  let v1946 : BitVec 32 := Scalar.muli v1945 c64_i32_626
  v1946
def k0_mult60 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_644 : BitVec 32 := 8#32
  let v2012 : BitVec 32 := Scalar.muli arg17 c8_i32_644
  let c3_i32_645 : BitVec 32 := 3#32
  let v2013 : BitVec 32 := Scalar.addi v2012 c3_i32_645
  let c32_i32_646 : BitVec 32 := 32#32
  let v2014 : BitVec 32 := Scalar.muli v2013 c32_i32_646
  v2014
def k0_mult61 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_647 : BitVec 32 := 8#32
  let v2016 : BitVec 32 := Scalar.muli arg17 c8_i32_647
  let c3_i32_648 : BitVec 32 := 3#32
  let v2017 : BitVec 32 := Scalar.addi v2016 c3_i32_648
  let c64_i32_649 : BitVec 32 := 64#32
  let v2018 : BitVec 32 := Scalar.muli v2017 c64_i32_649
  v2018
def k0_mult62 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_667 : BitVec 32 := 8#32
  let v2084 : BitVec 32 := Scalar.muli arg17 c8_i32_667
  let c4_i32_668 : BitVec 32 := 4#32
  let v2085 : BitVec 32 := Scalar.addi v2084 c4_i32_668
  let c32_i32_669 : BitVec 32 := 32#32
  let v2086 : BitVec 32 := Scalar.muli v2085 c32_i32_669
  v2086
def k0_mult63 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_670 : BitVec 32 := 8#32
  let v2088 : BitVec 32 := Scalar.muli arg17 c8_i32_670
  let c4_i32_671 : BitVec 32 := 4#32
  let v2089 : BitVec 32 := Scalar.addi v2088 c4_i32_671
  let c64_i32_672 : BitVec 32 := 64#32
  let v2090 : BitVec 32 := Scalar.muli v2089 c64_i32_672
  v2090
def k0_mult64 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_690 : BitVec 32 := 8#32
  let v2156 : BitVec 32 := Scalar.muli arg17 c8_i32_690
  let c5_i32_691 : BitVec 32 := 5#32
  let v2157 : BitVec 32 := Scalar.addi v2156 c5_i32_691
  let c32_i32_692 : BitVec 32 := 32#32
  let v2158 : BitVec 32 := Scalar.muli v2157 c32_i32_692
  v2158
def k0_mult65 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_693 : BitVec 32 := 8#32
  let v2160 : BitVec 32 := Scalar.muli arg17 c8_i32_693
  let c5_i32_694 : BitVec 32 := 5#32
  let v2161 : BitVec 32 := Scalar.addi v2160 c5_i32_694
  let c64_i32_695 : BitVec 32 := 64#32
  let v2162 : BitVec 32 := Scalar.muli v2161 c64_i32_695
  v2162
def k0_mult66 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_713 : BitVec 32 := 8#32
  let v2228 : BitVec 32 := Scalar.muli arg17 c8_i32_713
  let c6_i32_714 : BitVec 32 := 6#32
  let v2229 : BitVec 32 := Scalar.addi v2228 c6_i32_714
  let c32_i32_715 : BitVec 32 := 32#32
  let v2230 : BitVec 32 := Scalar.muli v2229 c32_i32_715
  v2230
def k0_mult67 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_716 : BitVec 32 := 8#32
  let v2232 : BitVec 32 := Scalar.muli arg17 c8_i32_716
  let c6_i32_717 : BitVec 32 := 6#32
  let v2233 : BitVec 32 := Scalar.addi v2232 c6_i32_717
  let c64_i32_718 : BitVec 32 := 64#32
  let v2234 : BitVec 32 := Scalar.muli v2233 c64_i32_718
  v2234
def k0_mult68 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_736 : BitVec 32 := 8#32
  let v2300 : BitVec 32 := Scalar.muli arg17 c8_i32_736
  let c7_i32_737 : BitVec 32 := 7#32
  let v2301 : BitVec 32 := Scalar.addi v2300 c7_i32_737
  let c32_i32_738 : BitVec 32 := 32#32
  let v2302 : BitVec 32 := Scalar.muli v2301 c32_i32_738
  v2302
def k0_mult69 (k0_t1 : Fin k0_t1_loop.trips) : BitVec 32 :=
  let c0_i32_11 : BitVec 32 := 0#32
  let c1_i32 : BitVec 32 := 1#32
  let arg17 : BitVec 32 := Scf.iv c0_i32_11 c1_i32 k0_t1
  let c8_i32_739 : BitVec 32 := 8#32
  let v2304 : BitVec 32 := Scalar.muli arg17 c8_i32_739
  let c7_i32_740 : BitVec 32 := 7#32
  let v2305 : BitVec 32 := Scalar.addi v2304 c7_i32_740
  let c64_i32_741 : BitVec 32 := 64#32
  let v2306 : BitVec 32 := Scalar.muli v2305 c64_i32_741
  v2306
def k0_off26 (i : grid0.Coords) : Fin 2 → Nat :=
  let c0_24 : Index := 0#32
  let arg1 : BitVec 32 := BitVec.ofNat 32 (i 1).val
  let c512_i32 : BitVec 32 := 512#32
  let v0 : BitVec 32 := Scalar.muli arg1 c512_i32
  let v1 : BitVec 32 := v0
  let v32 : Index := Scalar.indexCast v1
  ![0, v32.toNat]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c36_i32 : BitVec 32 := 36#32
  let v1 : BitVec 32 := Scalar.select v0 arg1 c36_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c36_i32 : BitVec 32 := 36#32
  let v1 : BitVec 32 := Scalar.select v0 arg1 c36_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c36_i32 : BitVec 32 := 36#32
  let v1 : BitVec 32 := Scalar.select v0 arg1 c36_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .slt arg0 c4_i32
  let c36_i32 : BitVec 32 := 36#32
  let v2 : BitVec 32 := Scalar.select v1 arg1 c36_i32
  let c0_i32 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S56x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3584x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S6x256x3584 : Shape := ⟨3, ![6, 256, 3584]⟩
abbrev S1792x18944 : Shape := ⟨2, ![1792, 18944]⟩
abbrev S56x18944 : Shape := ⟨2, ![56, 18944]⟩
abbrev S3584x16 : Shape := ⟨2, ![3584, 16]⟩
abbrev S16x18944 : Shape := ⟨2, ![16, 18944]⟩
abbrev S246 : Shape := ⟨1, ![246]⟩
abbrev S_ : Shape := ⟨0, ![]⟩
abbrev S56x32x18944 : Shape := ⟨3, ![56, 32, 18944]⟩
abbrev S56x1x18944 : Shape := ⟨3, ![56, 1, 18944]⟩
abbrev S1536x1792x2 : Shape := ⟨3, ![1536, 1792, 2]⟩
abbrev S1536x1792x1 : Shape := ⟨3, ![1536, 1792, 1]⟩
abbrev S1536x1792 : Shape := ⟨2, ![1536, 1792]⟩
abbrev S1536x18944 : Shape := ⟨2, ![1536, 18944]⟩
abbrev S1536x3584 : Shape := ⟨2, ![1536, 3584]⟩
abbrev S1536x16 : Shape := ⟨2, ![1536, 16]⟩
abbrev S1536 : Shape := ⟨1, ![1536]⟩
abbrev S1536x1 : Shape := ⟨2, ![1536, 1]⟩
abbrev S1x246 : Shape := ⟨2, ![1, 246]⟩
abbrev S1536x246 : Shape := ⟨2, ![1536, 246]⟩
abbrev S12x128 : Shape := ⟨2, ![12, 128]⟩

abbrev nBuf : Space → Nat
  | .hbm => 212
  | .vmem => 3
  | .smem => 0
  | _ => 0

abbrev hbmTy0_0 (i : Nat) : BufTy := match i % 128 with
  | 0 => ⟨S6x256x3584, .bf16⟩
  | 1 => ⟨S1792x18944, .i8⟩
  | 2 => ⟨S56x18944, .f32⟩
  | 3 => ⟨S3584x16, .bf16⟩
  | 4 => ⟨S16x18944, .bf16⟩
  | 5 => ⟨S246, .f32⟩
  | 6 => ⟨S56x18944, .bf16⟩
  | 7 => ⟨S1792x18944, .i32⟩
  | 8 => ⟨S_, .i32⟩
  | 9 => ⟨S1792x18944, .i32⟩
  | 10 => ⟨S1792x18944, .i32⟩
  | 11 => ⟨S_, .i32⟩
  | 12 => ⟨S1792x18944, .i32⟩
  | 13 => ⟨S1792x18944, .i1⟩
  | 14 => ⟨S_, .i32⟩
  | 15 => ⟨S1792x18944, .i32⟩
  | 16 => ⟨S1792x18944, .i32⟩
  | 17 => ⟨S_, .i32⟩
  | 18 => ⟨S1792x18944, .i32⟩
  | 19 => ⟨S1792x18944, .i1⟩
  | 20 => ⟨S_, .i32⟩
  | 21 => ⟨S1792x18944, .i32⟩
  | 22 => ⟨S1792x18944, .i32⟩
  | 23 => ⟨S_, .i32⟩
  | 24 => ⟨S1792x18944, .i32⟩
  | 25 => ⟨S1792x18944, .i1⟩
  | 26 => ⟨S_, .i32⟩
  | 27 => ⟨S1792x18944, .i32⟩
  | 28 => ⟨S1792x18944, .i32⟩
  | 29 => ⟨S_, .i32⟩
  | 30 => ⟨S1792x18944, .i32⟩
  | 31 => ⟨S1792x18944, .i1⟩
  | 32 => ⟨S_, .f32⟩
  | 33 => ⟨S_, .f32⟩
  | 34 => ⟨S1792x18944, .f32⟩
  | 35 => ⟨S1792x18944, .f32⟩
  | 36 => ⟨S1792x18944, .f32⟩
  | 37 => ⟨S_, .f32⟩
  | 38 => ⟨S_, .f32⟩
  | 39 => ⟨S1792x18944, .f32⟩
  | 40 => ⟨S1792x18944, .f32⟩
  | 41 => ⟨S1792x18944, .f32⟩
  | 42 => ⟨S1792x18944, .f32⟩
  | 43 => ⟨S_, .f32⟩
  | 44 => ⟨S_, .f32⟩
  | 45 => ⟨S1792x18944, .f32⟩
  | 46 => ⟨S1792x18944, .f32⟩
  | 47 => ⟨S1792x18944, .f32⟩
  | 48 => ⟨S_, .f32⟩
  | 49 => ⟨S_, .f32⟩
  | 50 => ⟨S1792x18944, .f32⟩
  | 51 => ⟨S1792x18944, .f32⟩
  | 52 => ⟨S1792x18944, .f32⟩
  | 53 => ⟨S1792x18944, .f32⟩
  | 54 => ⟨S1792x18944, .f32⟩
  | 55 => ⟨S_, .f32⟩
  | 56 => ⟨S_, .f32⟩
  | 57 => ⟨S1792x18944, .f32⟩
  | 58 => ⟨S1792x18944, .f32⟩
  | 59 => ⟨S1792x18944, .f32⟩
  | 60 => ⟨S_, .f32⟩
  | 61 => ⟨S_, .f32⟩
  | 62 => ⟨S1792x18944, .f32⟩
  | 63 => ⟨S1792x18944, .f32⟩
  | 64 => ⟨S1792x18944, .f32⟩
  | 65 => ⟨S1792x18944, .f32⟩
  | 66 => ⟨S_, .f32⟩
  | 67 => ⟨S_, .f32⟩
  | 68 => ⟨S1792x18944, .f32⟩
  | 69 => ⟨S1792x18944, .f32⟩
  | 70 => ⟨S1792x18944, .f32⟩
  | 71 => ⟨S_, .f32⟩
  | 72 => ⟨S_, .f32⟩
  | 73 => ⟨S1792x18944, .f32⟩
  | 74 => ⟨S1792x18944, .f32⟩
  | 75 => ⟨S1792x18944, .f32⟩
  | 76 => ⟨S1792x18944, .f32⟩
  | 77 => ⟨S1792x18944, .f32⟩
  | 78 => ⟨S1792x18944, .f32⟩
  | 79 => ⟨S1792x18944, .bf16⟩
  | 80 => ⟨S56x32x18944, .bf16⟩
  | 81 => ⟨S56x1x18944, .bf16⟩
  | 82 => ⟨S56x32x18944, .bf16⟩
  | 83 => ⟨S56x32x18944, .bf16⟩
  | 84 => ⟨S1792x18944, .bf16⟩
  | 85 => ⟨S_, .i32⟩
  | 86 => ⟨S1792x18944, .i32⟩
  | 87 => ⟨S1792x18944, .i32⟩
  | 88 => ⟨S_, .i32⟩
  | 89 => ⟨S1792x18944, .i32⟩
  | 90 => ⟨S1792x18944, .i1⟩
  | 91 => ⟨S_, .i32⟩
  | 92 => ⟨S1792x18944, .i32⟩
  | 93 => ⟨S1792x18944, .i32⟩
  | 94 => ⟨S_, .i32⟩
  | 95 => ⟨S1792x18944, .i32⟩
  | 96 => ⟨S1792x18944, .i1⟩
  | 97 => ⟨S_, .i32⟩
  | 98 => ⟨S1792x18944, .i32⟩
  | 99 => ⟨S1792x18944, .i32⟩
  | 100 => ⟨S_, .i32⟩
  | 101 => ⟨S1792x18944, .i32⟩
  | 102 => ⟨S1792x18944, .i1⟩
  | 103 => ⟨S_, .i32⟩
  | 104 => ⟨S1792x18944, .i32⟩
  | 105 => ⟨S1792x18944, .i32⟩
  | 106 => ⟨S_, .i32⟩
  | 107 => ⟨S1792x18944, .i32⟩
  | 108 => ⟨S1792x18944, .i1⟩
  | 109 => ⟨S_, .f32⟩
  | 110 => ⟨S_, .f32⟩
  | 111 => ⟨S1792x18944, .f32⟩
  | 112 => ⟨S1792x18944, .f32⟩
  | 113 => ⟨S1792x18944, .f32⟩
  | 114 => ⟨S_, .f32⟩
  | 115 => ⟨S_, .f32⟩
  | 116 => ⟨S1792x18944, .f32⟩
  | 117 => ⟨S1792x18944, .f32⟩
  | 118 => ⟨S1792x18944, .f32⟩
  | 119 => ⟨S1792x18944, .f32⟩
  | 120 => ⟨S_, .f32⟩
  | 121 => ⟨S_, .f32⟩
  | 122 => ⟨S1792x18944, .f32⟩
  | 123 => ⟨S1792x18944, .f32⟩
  | 124 => ⟨S1792x18944, .f32⟩
  | 125 => ⟨S_, .f32⟩
  | 126 => ⟨S_, .f32⟩
  | 127 => ⟨S1792x18944, .f32⟩
  | _ => ⟨S6x256x3584, .bf16⟩

abbrev hbmTy0_1 (i : Nat) : BufTy := match i % 128 with
  | 0 => ⟨S1792x18944, .f32⟩
  | 1 => ⟨S1792x18944, .f32⟩
  | 2 => ⟨S1792x18944, .f32⟩
  | 3 => ⟨S1792x18944, .f32⟩
  | 4 => ⟨S_, .f32⟩
  | 5 => ⟨S_, .f32⟩
  | 6 => ⟨S1792x18944, .f32⟩
  | 7 => ⟨S1792x18944, .f32⟩
  | 8 => ⟨S1792x18944, .f32⟩
  | 9 => ⟨S_, .f32⟩
  | 10 => ⟨S_, .f32⟩
  | 11 => ⟨S1792x18944, .f32⟩
  | 12 => ⟨S1792x18944, .f32⟩
  | 13 => ⟨S1792x18944, .f32⟩
  | 14 => ⟨S1792x18944, .f32⟩
  | 15 => ⟨S_, .f32⟩
  | 16 => ⟨S_, .f32⟩
  | 17 => ⟨S1792x18944, .f32⟩
  | 18 => ⟨S1792x18944, .f32⟩
  | 19 => ⟨S1792x18944, .f32⟩
  | 20 => ⟨S_, .f32⟩
  | 21 => ⟨S_, .f32⟩
  | 22 => ⟨S1792x18944, .f32⟩
  | 23 => ⟨S1792x18944, .f32⟩
  | 24 => ⟨S1792x18944, .f32⟩
  | 25 => ⟨S1792x18944, .f32⟩
  | 26 => ⟨S1792x18944, .f32⟩
  | 27 => ⟨S1792x18944, .f32⟩
  | 28 => ⟨S1792x18944, .bf16⟩
  | 29 => ⟨S56x32x18944, .bf16⟩
  | 30 => ⟨S56x1x18944, .bf16⟩
  | 31 => ⟨S56x32x18944, .bf16⟩
  | 32 => ⟨S56x32x18944, .bf16⟩
  | 33 => ⟨S1792x18944, .bf16⟩
  | 34 => ⟨S1536x1792x2, .bf16⟩
  | 35 => ⟨S1536x1792x1, .bf16⟩
  | 36 => ⟨S1536x1792, .bf16⟩
  | 37 => ⟨S1536x18944, .f32⟩
  | 38 => ⟨S1536x1792x1, .bf16⟩
  | 39 => ⟨S1536x1792, .bf16⟩
  | 40 => ⟨S1536x18944, .f32⟩
  | 41 => ⟨S1536x18944, .f32⟩
  | 42 => ⟨S1536x3584, .bf16⟩
  | 43 => ⟨S1536x16, .f32⟩
  | 44 => ⟨S1536x16, .bf16⟩
  | 45 => ⟨S1536x18944, .f32⟩
  | 46 => ⟨S_, .f32⟩
  | 47 => ⟨S1536x18944, .f32⟩
  | 48 => ⟨S1536x18944, .f32⟩
  | 49 => ⟨S1536x18944, .f32⟩
  | 50 => ⟨S1536x18944, .f32⟩
  | 51 => ⟨S_, .f32⟩
  | 52 => ⟨S1536, .f32⟩
  | 53 => ⟨S1536x1, .f32⟩
  | 54 => ⟨S_, .f32⟩
  | 55 => ⟨S1536x1, .f32⟩
  | 56 => ⟨S1536x1, .f32⟩
  | 57 => ⟨S1x246, .f32⟩
  | 58 => ⟨S1536x246, .f32⟩
  | 59 => ⟨S1536x246, .f32⟩
  | 60 => ⟨S1536x246, .i1⟩
  | 61 => ⟨S_, .f32⟩
  | 62 => ⟨S1536x246, .f32⟩
  | 63 => ⟨S1536x246, .f32⟩
  | 64 => ⟨S1536x246, .f32⟩
  | 65 => ⟨S_, .f32⟩
  | 66 => ⟨S1536, .f32⟩
  | 67 => ⟨S1536x1, .f32⟩
  | 68 => ⟨S_, .f32⟩
  | 69 => ⟨S1536x1, .f32⟩
  | 70 => ⟨S1536x1, .i1⟩
  | 71 => ⟨S_, .f32⟩
  | 72 => ⟨S1536x1, .f32⟩
  | 73 => ⟨S1536x1, .i1⟩
  | 74 => ⟨S1536x1, .i1⟩
  | 75 => ⟨S_, .f32⟩
  | 76 => ⟨S1536x1, .f32⟩
  | 77 => ⟨S1536x1, .f32⟩
  | 78 => ⟨S_, .f32⟩
  | 79 => ⟨S1536x1, .f32⟩
  | 80 => ⟨S1536x1, .f32⟩
  | 81 => ⟨S1536x18944, .bf16⟩
  | 82 => ⟨S12x128, .f32⟩
  | 83 => ⟨S1536x18944, .fp8e4m3⟩
  | _ => ⟨S6x256x3584, .bf16⟩

abbrev hbmTy (i : Nat) : BufTy := match i / 128 with
  | 0 => hbmTy0_0 i
  | 1 => hbmTy0_1 i
  | _ => ⟨S6x256x3584, .bf16⟩

abbrev bufTy : (tb : Table) → Fin (tcTables nBuf tb) → BufTy
  | .hbm, ⟨i, _⟩ => hbmTy i
  | .local _ .vmem, ⟨0, _⟩ => ⟨S1536x18944, .f32⟩
  | .local _ .vmem, ⟨1, _⟩ => ⟨S1536x1, .f32⟩
  | .local _ .vmem, ⟨2, _⟩ => ⟨S1536x18944, .fp8e4m3⟩
  | _, _ => ⟨S6x256x3584, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_c_6 : Ref sig .tc := ⟨.hbm, 29, rfl⟩
abbrev main_v16 : Ref sig .tc := ⟨.hbm, 30, rfl⟩
abbrev main_v17 : Ref sig .tc := ⟨.hbm, 31, rfl⟩
abbrev main_cst_7 : Ref sig .tc := ⟨.hbm, 32, rfl⟩
abbrev main_cst_8 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_cst_9 : Ref sig .tc := ⟨.hbm, 37, rfl⟩
abbrev main_cst_10 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_v20 : Ref sig .tc := ⟨.hbm, 42, rfl⟩
abbrev main_cst_11 : Ref sig .tc := ⟨.hbm, 43, rfl⟩
abbrev main_cst_12 : Ref sig .tc := ⟨.hbm, 44, rfl⟩
abbrev main_call3_v0 : Ref sig .tc := ⟨.hbm, 45, rfl⟩
abbrev main_call3_v1 : Ref sig .tc := ⟨.hbm, 46, rfl⟩
abbrev main_v21 : Ref sig .tc := ⟨.hbm, 47, rfl⟩
abbrev main_cst_13 : Ref sig .tc := ⟨.hbm, 48, rfl⟩
abbrev main_cst_14 : Ref sig .tc := ⟨.hbm, 49, rfl⟩
abbrev main_call4_v0 : Ref sig .tc := ⟨.hbm, 50, rfl⟩
abbrev main_call4_v1 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_15 : Ref sig .tc := ⟨.hbm, 55, rfl⟩
abbrev main_cst_16 : Ref sig .tc := ⟨.hbm, 56, rfl⟩
abbrev main_call7_v0 : Ref sig .tc := ⟨.hbm, 57, rfl⟩
abbrev main_call7_v1 : Ref sig .tc := ⟨.hbm, 58, rfl⟩
abbrev main_v25 : Ref sig .tc := ⟨.hbm, 59, rfl⟩
abbrev main_cst_17 : Ref sig .tc := ⟨.hbm, 60, rfl⟩
abbrev main_cst_18 : Ref sig .tc := ⟨.hbm, 61, rfl⟩
abbrev main_call8_v0 : Ref sig .tc := ⟨.hbm, 62, rfl⟩
abbrev main_call8_v1 : Ref sig .tc := ⟨.hbm, 63, rfl⟩
abbrev main_v26 : Ref sig .tc := ⟨.hbm, 64, rfl⟩
abbrev main_v27 : Ref sig .tc := ⟨.hbm, 65, rfl⟩
abbrev main_cst_19 : Ref sig .tc := ⟨.hbm, 66, rfl⟩
abbrev main_cst_20 : Ref sig .tc := ⟨.hbm, 67, rfl⟩
abbrev main_call10_v0 : Ref sig .tc := ⟨.hbm, 68, rfl⟩
abbrev main_call10_v1 : Ref sig .tc := ⟨.hbm, 69, rfl⟩
abbrev main_v28 : Ref sig .tc := ⟨.hbm, 70, rfl⟩
abbrev main_cst_21 : Ref sig .tc := ⟨.hbm, 71, rfl⟩
abbrev main_cst_22 : Ref sig .tc := ⟨.hbm, 72, rfl⟩
abbrev main_call11_v0 : Ref sig .tc := ⟨.hbm, 73, rfl⟩
abbrev main_call11_v1 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_c_23 : Ref sig .tc := ⟨.hbm, 85, rfl⟩
abbrev main_v39 : Ref sig .tc := ⟨.hbm, 86, rfl⟩
abbrev main_v40 : Ref sig .tc := ⟨.hbm, 87, rfl⟩
abbrev main_c_24 : Ref sig .tc := ⟨.hbm, 88, rfl⟩
abbrev main_v41 : Ref sig .tc := ⟨.hbm, 89, rfl⟩
abbrev main_v42 : Ref sig .tc := ⟨.hbm, 90, rfl⟩
abbrev main_c_25 : Ref sig .tc := ⟨.hbm, 91, rfl⟩
abbrev main_v43 : Ref sig .tc := ⟨.hbm, 92, rfl⟩
abbrev main_v44 : Ref sig .tc := ⟨.hbm, 93, rfl⟩
abbrev main_c_26 : Ref sig .tc := ⟨.hbm, 94, rfl⟩
abbrev main_v45 : Ref sig .tc := ⟨.hbm, 95, rfl⟩
abbrev main_v46 : Ref sig .tc := ⟨.hbm, 96, rfl⟩
abbrev main_c_27 : Ref sig .tc := ⟨.hbm, 97, rfl⟩
abbrev main_v47 : Ref sig .tc := ⟨.hbm, 98, rfl⟩
abbrev main_v48 : Ref sig .tc := ⟨.hbm, 99, rfl⟩
abbrev main_c_28 : Ref sig .tc := ⟨.hbm, 100, rfl⟩
abbrev main_v49 : Ref sig .tc := ⟨.hbm, 101, rfl⟩
abbrev main_v50 : Ref sig .tc := ⟨.hbm, 102, rfl⟩
abbrev main_c_29 : Ref sig .tc := ⟨.hbm, 103, rfl⟩
abbrev main_v51 : Ref sig .tc := ⟨.hbm, 104, rfl⟩
abbrev main_v52 : Ref sig .tc := ⟨.hbm, 105, rfl⟩
abbrev main_c_30 : Ref sig .tc := ⟨.hbm, 106, rfl⟩
abbrev main_v53 : Ref sig .tc := ⟨.hbm, 107, rfl⟩
abbrev main_v54 : Ref sig .tc := ⟨.hbm, 108, rfl⟩
abbrev main_cst_31 : Ref sig .tc := ⟨.hbm, 109, rfl⟩
abbrev main_cst_32 : Ref sig .tc := ⟨.hbm, 110, rfl⟩
abbrev main_call15_v0 : Ref sig .tc := ⟨.hbm, 111, rfl⟩
abbrev main_call15_v1 : Ref sig .tc := ⟨.hbm, 112, rfl⟩
abbrev main_v55 : Ref sig .tc := ⟨.hbm, 113, rfl⟩
abbrev main_cst_33 : Ref sig .tc := ⟨.hbm, 114, rfl⟩
abbrev main_cst_34 : Ref sig .tc := ⟨.hbm, 115, rfl⟩
abbrev main_call16_v0 : Ref sig .tc := ⟨.hbm, 116, rfl⟩
abbrev main_call16_v1 : Ref sig .tc := ⟨.hbm, 117, rfl⟩
abbrev main_v56 : Ref sig .tc := ⟨.hbm, 118, rfl⟩
abbrev main_v57 : Ref sig .tc := ⟨.hbm, 119, rfl⟩
abbrev main_cst_35 : Ref sig .tc := ⟨.hbm, 120, rfl⟩
abbrev main_cst_36 : Ref sig .tc := ⟨.hbm, 121, rfl⟩
abbrev main_call18_v0 : Ref sig .tc := ⟨.hbm, 122, rfl⟩
abbrev main_call18_v1 : Ref sig .tc := ⟨.hbm, 123, rfl⟩
abbrev main_v58 : Ref sig .tc := ⟨.hbm, 124, rfl⟩
abbrev main_cst_37 : Ref sig .tc := ⟨.hbm, 125, rfl⟩
abbrev main_cst_38 : Ref sig .tc := ⟨.hbm, 126, rfl⟩
abbrev main_call19_v0 : Ref sig .tc := ⟨.hbm, 127, rfl⟩
abbrev main_call19_v1 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_cst_39 : Ref sig .tc := ⟨.hbm, 132, rfl⟩
abbrev main_cst_40 : Ref sig .tc := ⟨.hbm, 133, rfl⟩
abbrev main_call22_v0 : Ref sig .tc := ⟨.hbm, 134, rfl⟩
abbrev main_call22_v1 : Ref sig .tc := ⟨.hbm, 135, rfl⟩
abbrev main_v62 : Ref sig .tc := ⟨.hbm, 136, rfl⟩
abbrev main_cst_41 : Ref sig .tc := ⟨.hbm, 137, rfl⟩
abbrev main_cst_42 : Ref sig .tc := ⟨.hbm, 138, rfl⟩
abbrev main_call23_v0 : Ref sig .tc := ⟨.hbm, 139, rfl⟩
abbrev main_call23_v1 : Ref sig .tc := ⟨.hbm, 140, rfl⟩
abbrev main_v63 : Ref sig .tc := ⟨.hbm, 141, rfl⟩
abbrev main_v64 : Ref sig .tc := ⟨.hbm, 142, rfl⟩
abbrev main_cst_43 : Ref sig .tc := ⟨.hbm, 143, rfl⟩
abbrev main_cst_44 : Ref sig .tc := ⟨.hbm, 144, rfl⟩
abbrev main_call25_v0 : Ref sig .tc := ⟨.hbm, 145, rfl⟩
abbrev main_call25_v1 : Ref sig .tc := ⟨.hbm, 146, rfl⟩
abbrev main_v65 : Ref sig .tc := ⟨.hbm, 147, rfl⟩
abbrev main_cst_45 : Ref sig .tc := ⟨.hbm, 148, rfl⟩
abbrev main_cst_46 : Ref sig .tc := ⟨.hbm, 149, rfl⟩
abbrev main_call26_v0 : Ref sig .tc := ⟨.hbm, 150, rfl⟩
abbrev main_call26_v1 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_cst_47 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_cst_48 : Ref sig .tc := ⟨.hbm, 179, rfl⟩
abbrev main_v92 : Ref sig .tc := ⟨.hbm, 180, rfl⟩
abbrev main_v93 : Ref sig .tc := ⟨.hbm, 181, rfl⟩
abbrev main_cst_49 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_cst_50 : Ref sig .tc := ⟨.hbm, 189, rfl⟩
abbrev main_call30_v0 : Ref sig .tc := ⟨.hbm, 190, rfl⟩
abbrev main_call30_v1 : Ref sig .tc := ⟨.hbm, 191, rfl⟩
abbrev main_v100 : Ref sig .tc := ⟨.hbm, 192, rfl⟩
abbrev main_cst_51 : Ref sig .tc := ⟨.hbm, 193, rfl⟩
abbrev main_v101 : Ref sig .tc := ⟨.hbm, 194, rfl⟩
abbrev main_v102 : Ref sig .tc := ⟨.hbm, 195, rfl⟩
abbrev main_cst_52 : Ref sig .tc := ⟨.hbm, 196, rfl⟩
abbrev main_v103 : Ref sig .tc := ⟨.hbm, 197, rfl⟩
abbrev main_v104 : Ref sig .tc := ⟨.hbm, 198, rfl⟩
abbrev main_cst_53 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_cst_54 : Ref sig .tc := ⟨.hbm, 203, rfl⟩
abbrev main_call31_v0 : Ref sig .tc := ⟨.hbm, 204, rfl⟩
abbrev main_v108 : Ref sig .tc := ⟨.hbm, 205, rfl⟩
abbrev main_cst_55 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x18944 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelRun.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Frame

@[expose] public section

noncomputable section

namespace Cert.Proof.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- One pass of the body, as far as the buffers it owns: whatever the eight blocks and the seven scratch buffers hold,
    the body ends with the five input blocks unchanged and the other ten buffers at some contents. -/
theorem kernelRun (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole)
    (x2 : Vec F S384x3584 .bf16) (x3 : Vec F S1792x512 .i8) (x4 : Vec F S56x512 .f32) (x5 : Vec F S3584x16 .bf16) (x6 : Vec F S16x512 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x) ∗ (∃ x, owns (c : Thread nD τ) arg15 fullShare x) ∗ (∃ x, owns (c : Thread nD τ) arg16 fullShare x)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x) ∗ (∃ x, owns (c : Thread nD τ) arg15 fullShare x) ∗ (∃ x, owns (c : Thread nD τ) arg16 fullShare x)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec_parts
  by_cases h4 : k0_cond4 i = 1#1
  · sl_exec_parts
    sl_step
    iapply Hk
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists _; iexists _; isplitr
      swap; · iexact H7
      ipureintro; rfl
    isplitl [H8]
    · iexists _; iexists _; isplitr
      swap; · iexact H8
      ipureintro; rfl
    isplitl [H9]
    · iexists _; iexists _; isplitr
      swap; · iexact H9
      ipureintro; rfl
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    iexists _; iexists _; isplitr
    swap; · iexact H16
    ipureintro; rfl
  · sl_exec_parts
    sl_step
    iapply Hk
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists _; iexists _; isplitr
      swap; · iexact H7
      ipureintro; rfl
    isplitl [H8]
    · iexists _; iexists _; isplitr
      swap; · iexact H8
      ipureintro; rfl
    isplitl [H9]
    · iexists _; iexists _; isplitr
      swap; · iexact H9
      ipureintro; rfl
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    iexists _; iexists _; isplitr
    swap; · iexact H16
    ipureintro; rfl

end Cert.Proof.KernelRun

end
-- ==== Proof.KernelFrame.lean ====
module

public import proofs.«01_k».proof.Proof.Gen.Kernel.Points
public import proofs.«01_k».proof.Proof.KernelRun

@[expose] public section

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- What the body may leave in a window's block: an input block is unchanged, of an output block nothing is said. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => True
    | ⟨6, _⟩ => True
    | ⟨7, _⟩ => True
  Φ _ := Pipeline.ΦA spec0 c
  q _ := fullShare
  owed _ := 0

/-- The body table's row at a grid point is the body at that point's blocks. -/
theorem row (t : Fin cfg0.N) :
    defs₀ (F := F) .tc cfg0.body (cfg0.bodyArgs t (cfg0.slots t)) = bodyAt0 t := by
  unfold defs₀; rw [Defs.onTc_tc]

/-- The body keeps its invariant at every grid point, whatever the blocks hold. -/
theorem body (c : Dev nD) : (rdat m c).BodyObligation (defs₀ (F := F)) Variants.none () Set.univ := fun t Y _ => by
  rw [bigSep_W0, bigSep_W0, row]
  rw [show (rdat m c).Φ t.castSucc = Pipeline.ΦA spec0 c from rfl,
    show (rdat m c).Φ t.succ = Pipeline.ΦA spec0 c from rfl,
    show (rdat m c).owesAt () t.succ = (rdat m c).owesAt () t.castSucc from rfl]
  unfold Pipeline.ΦA bodyAt0
  rw [scopedRest0_eq]
  simp only [← owns_whole]
  iintro ⟨⟨⟨⟨%s0, S0⟩, ⟨%s1, S1⟩, ⟨%s2, S2⟩, ⟨%s3, S3⟩, ⟨%s4, S4⟩, ⟨%s5, S5⟩, ⟨%s6, S6⟩⟩, Hr⟩, Ho, H0, H1, H2, H3, H4, H5, H6, H7⟩
  iapply (KernelRun.kernelRun c Set.univ _ _ _ _ _ _ _ _ _ _ _ _ _ _ _ _ _ _ _ _ _ _ _ _ _ _ _ _ _ _ _ (Y 0) (Y 1) (Y 2) (Y 3) (Y 4))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  iintro ⟨H0, H1, H2, H3, H4, ⟨%x5, H5⟩, ⟨%x6, H6⟩, ⟨%x7, H7⟩, ⟨%s0, S0⟩, ⟨%s1, S1⟩, ⟨%s2, S2⟩, ⟨%s3, S3⟩, ⟨%s4, S4⟩, ⟨%s5, S5⟩, ⟨%s6, S6⟩⟩
  isplitl [S0 S1 S2 S3 S4 S5 S6 Hr]
  · isplitr [Hr]
    swap; · iexact Hr
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; trivial
  isplitl [H6]
  · iexists _; isplitr; swap; · iexact H6
    ipureintro; trivial
  iexists _; isplitr; swap; · iexact H7
  ipureintro; trivial

set_option backward.isDefEq.respectTransparency.types false in
set_option maxHeartbeats 800000 in
/-- Every weakly fair execution of the program ends, with the arrays at contents the body may have left and every
    counter at zero. -/
theorem run : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := fun c => body m c) (hshare := fun c => (rdat m c).share_full fun _ => rfl)
    (howed := fun _ _ => rfl) (V := V m) (hmain := hmain m Variants.none) (hA := fun _ _ => rfl) (hΦ := fun _ _ => rfl)

/-- The five arguments end as they were launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => by
    obtain ⟨h, hs⟩ := h
    refine ⟨fun c => ?_, hs⟩
    refine ⟨((h c).2 main_arg0 (Pipeline.mem_restRefs_of main_arg0 (by decide) (by decide))).trans (V_main_arg0 m c), ?_, ?_, ?_, ?_⟩
    · have := (h c).1 1
      rw [RDat.ArrAt_in _ 1 rfl] at this
      exact this.trans (V_main_arg1 m c)
    · have := (h c).1 2
      rw [RDat.ArrAt_in _ 2 rfl] at this
      exact this.trans (V_main_arg2 m c)
    · have := (h c).1 3
      rw [RDat.ArrAt_in _ 3 rfl] at this
      exact this.trans (V_main_arg3 m c)
    · have := (h c).1 4
      rw [RDat.ArrAt_in _ 4 rfl] at this
      exact this.trans (V_main_arg4 m c)) (run m ρ)

end Cert.Proof.KernelFrame

end
-- ==== Proof.Regions.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

@[expose] public section

set_option pp.maxSteps 300

noncomputable section

namespace Cert.Proof.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The step that writes the table of the sixteen levels, run at the first grid point. -/
def region1 (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) :
    Prog (TpuEff nD τ sig (Elt F) Λ₀ .tc) PUnit := do
  let arg0 : BitVec 32 := BitVec.ofNat 32 (i 0).val
  let arg1 : BitVec 32 := BitVec.ofNat 32 (i 1).val
  let v0 : BitVec 32 := Scalar.muli arg1 512#32
  let v1 : BitVec 32 := v0
  let ⟨v18, v55, v57⟩ : Σ' (v18 : IVec S16x128 32) (v55 : FVec F S16x128 .f32), IVec S16x128 1 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16
  let v85 : Vec F S16x128 .bf16 ← Prog.lift (.load arg10 (Rect.unit (s := S16x128) ![0, 0] S16x128.size inb_S16x128_S16x128_0_0).toLoadRect (View.loadsAt_vmem h_S16x128))
  Prog.lift (.store arg10 (Rect.unit (s := S16x128) ![0, 0] S16x128.size inb_S16x128_S16x128_0_0) (k0_pay1 v18 v55 v57) Finset.univ (View.stores_vmem h_S16x128 (harg10.storeExact_slice rfl _ packedbf16_S16x128_S16x128_0_0) (fun _ => rfl)) (.inl rfl))
  pure ⟨⟩

/-- The step that turns the row maxima of the finished pass into scales and inverse scales. -/
def region2 (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (k0_h2 : k0_cond2 i = 1#1) :
    Prog (TpuEff nD τ sig (Elt F) Λ₀ .tc) PUnit := do
  let arg0 : BitVec 32 := BitVec.ofNat 32 (i 0).val
  let arg1 : BitVec 32 := BitVec.ofNat 32 (i 1).val
  let v0 : BitVec 32 := Scalar.muli arg1 512#32
  let v1 : BitVec 32 := v0
  let ⟨v24, v60, v61⟩ : Σ' (v24 : FVec F S384x128 .f32) (v60 : IVec S384x128 32), IVec S384x128 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v103, v104⟩ : Σ' (v103 : FVec F S384x128 .f32), FVec F S384x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 v24 v60 v61
  let v105 : Vec F S384x128 .f32 ← Prog.lift (.load arg16 (Rect.unit (s := S384x128) ![0, 0] S384x128.size inb_S384x128_S384x128_0_0).toLoadRect (View.loadsAt_vmem h_S384x128))
  Prog.lift (.store arg16 (Rect.unit (s := S384x128) ![0, 0] S384x128.size inb_S384x128_S384x128_0_0) (k0_pay2 v104) Finset.univ (View.stores_vmem_bits_univ h_S384x128 rfl) (.inl rfl))
  let v115 : Vec F S1x128 .f32 ← Prog.lift (.load arg9 (Rect.unit (s := S12x128) (k0_off1 i 0#32) S1x128.size (k0_off1_inb i k0_h2 0)).toLoadRect (View.loadsAt_vmem h_S1x128))
  Prog.lift (.store arg9 (Rect.unit (s := S12x128) (k0_off1 i 0#32) S1x128.size (k0_off1_inb i k0_h2 0)) (k0_pay3 v103) Finset.univ (View.stores_vmem_bits_univ h_S1x128 rfl) (.inl rfl))
  let v123 : Vec F S1x128 .f32 ← Prog.lift (.load arg9 (Rect.unit (s := S12x128) (k0_off1 i 1#32) S1x128.size (k0_off1_inb i k0_h2 1)).toLoadRect (View.loadsAt_vmem h_S1x128))
  Prog.lift (.store arg9 (Rect.unit (s := S12x128) (k0_off1 i 1#32) S1x128.size (k0_off1_inb i k0_h2 1)) (k0_pay4 v103) Finset.univ (View.stores_vmem_bits_univ h_S1x128 rfl) (.inl rfl))
  let v131 : Vec F S1x128 .f32 ← Prog.lift (.load arg9 (Rect.unit (s := S12x128) (k0_off1 i 2#32) S1x128.size (k0_off1_inb i k0_h2 2)).toLoadRect (View.loadsAt_vmem h_S1x128))
  Prog.lift (.store arg9 (Rect.unit (s := S12x128) (k0_off1 i 2#32) S1x128.size (k0_off1_inb i k0_h2 2)) (k0_pay5 v103) Finset.univ (View.stores_vmem_bits_univ h_S1x128 rfl) (.inl rfl))
  pure ⟨⟩

/-- The step that writes one block of codes from the stored values of the finished pass. -/
def region3 (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (k0_h3 : k0_cond3 i = 1#1) :
    Prog (TpuEff nD τ sig (Elt F) Λ₀ .tc) PUnit := do
  let arg0 : BitVec 32 := BitVec.ofNat 32 (i 0).val
  let arg1 : BitVec 32 := BitVec.ofNat 32 (i 1).val
  let v0 : BitVec 32 := Scalar.muli arg1 512#32
  let v1 : BitVec 32 := v0
  let v52 : FVec F S32x128 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3
  let ⟨v59, v87⟩ : Σ' (v59 : Vec F S32x128 .f32), FVec F S32x128 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v52
  let ⟨v100, c256_i32_64⟩ : Σ' (v100 : Vec F S32x128 .f32), BitVec 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v59 v87
  let ⟨v141, v155, cst_85⟩ : Σ' (v141 : Vec F S32x128 .f32) (v155 : FVec F S32x128 .f32), F .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v100 c256_i32_64
  let ⟨v182, v191⟩ : Σ' (v182 : Vec F S32x128 .f32), FVec F S32x128 .fp8e4m3 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v141 v155 cst_85
  let ⟨v223, v224⟩ : Σ' (v223 : Vec F S32x128 .f32), BitVec 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v182 v191
  let ⟨v259, v260⟩ : Σ' (v259 : FVec F S32x128 .f32), FVec F S32x128 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v223 v224
  let v264 : Vec F S32x128 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v259 v260
  let ⟨v305, v329⟩ : Σ' (v305 : Vec F S32x128 .f32), FVec F S32x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v264
  let ⟨v346, v364⟩ : Σ' (v346 : Vec F S32x128 .f32), FVec F S32x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v305 v329
  let ⟨v387, c128_i32_235⟩ : Σ' (v387 : Vec F S32x128 .f32), BitVec 32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v346 v364
  let ⟨v428, v432, cst_256⟩ : Σ' (v428 : Vec F S32x128 .f32) (v432 : FVec F S32x128 .f32), F .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v387 c128_i32_235
  let v467 : FVec F S32x128 .fp8e4m3 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v428 v432 cst_256
  let ⟨v469, v502⟩ : Σ' (v469 : Vec F S32x128 .f32), Vec F S32x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 v1 k0_h3 v467
  let v509 : Vec F S32x128 .fp8e4m3 ← Prog.lift (.load arg8 (Rect.unit (s := S384x512) ![352, 384] S32x128.size inb_S384x512_S32x128_352_384).toLoadRect (View.loadsAt_vmem h_S32x128))
  Prog.lift (.store arg8 (Rect.unit (s := S384x512) ![352, 384] S32x128.size inb_S384x512_S32x128_352_384) (k0_pay6 v469 v502) Finset.univ (View.stores_vmem h_S32x128 (harg8.storeExact_slice rfl _ packedfp8e4m3_S384x512_S32x128_352_384) (fun _ => rfl)) (.inl rfl))
  pure ⟨⟩

/-- The step that permutes the lanes of the activations, computes the low-rank factor and clears the maxima. -/
def region5 (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) :
    Prog (TpuEff nD τ sig (Elt F) Λ₀ .tc) PUnit := do
  let arg0 : BitVec 32 := BitVec.ofNat 32 (i 0).val
  let arg1 : BitVec 32 := BitVec.ofNat 32 (i 1).val
  let v0 : BitVec 32 := Scalar.muli arg1 512#32
  let v1 : BitVec 32 := v0
  let ⟨v2591, v2592⟩ : Σ' (v2591 : FVec F S16x128 .f32), IVec S16x128 32 ← k0_part477 i arg2 harg2 arg3 harg3 arg4 harg4 arg5 harg5 arg6 harg6 arg7 harg7 arg8 harg8 arg9 harg9 arg10 harg10 arg11 harg11 arg12 harg12 arg13 harg13 arg14 harg14 arg15 harg15 arg16 harg16
  let v5137 : FVec F S16x128 .bf16 ← k0_part478 i arg2 harg2 arg3 harg3 arg4 harg4 arg5 harg5 arg6 harg6 arg7 harg7 arg8 harg8 arg9 harg9 arg10 harg10 arg11 harg11 arg12 harg12 arg13 harg13 arg14 harg14 arg15 harg15 arg16 harg16 v2591 v2592
  let ⟨v7666, v7685⟩ : Σ' (v7666 : FVec F S16x128 .f32), IVec S16x128 32 ← k0_part479 i arg2 harg2 arg3 harg3 arg4 harg4 arg5 harg5 arg6 harg6 arg7 harg7 arg8 harg8 arg9 harg9 arg10 harg10 arg11 harg11 arg12 harg12 arg13 harg13 arg14 harg14 arg15 harg15 arg16 harg16 v5137
  let ⟨v10218, v10221, v10229, v10231⟩ : Σ' (v10218 : FVec F S16x128 .f32) (v10221 : IVec S16x128 32) (v10229 : IVec S16x128 32), IVec S16x128 32 ← k0_part480 i arg2 harg2 arg3 harg3 arg4 harg4 arg5 harg5 arg6 harg6 arg7 harg7 arg8 harg8 arg9 harg9 arg10 harg10 arg11 harg11 arg12 harg12 arg13 harg13 arg14 harg14 arg15 harg15 arg16 harg16 v7666 v7685
  let ⟨v12770, v12773, v12774, v12776, v12777⟩ : Σ' (v12770 : FVec F S16x128 .f32) (v12773 : IVec S16x128 32) (v12774 : IVec S16x128 32) (v12776 : IVec S16x128 32), IVec S16x128 32 ← k0_part481 i arg2 harg2 arg3 harg3 arg4 harg4 arg5 harg5 arg6 harg6 arg7 harg7 arg8 harg8 arg9 harg9 arg10 harg10 arg11 harg11 arg12 harg12 arg13 harg13 arg14 harg14 arg15 harg15 arg16 harg16 v10218 v10221 v10229 v10231
  let ⟨v15322, v15323, c63_i32_5782⟩ : Σ' (v15322 : FVec F S16x128 .f32) (v15323 : IVec S16x128 32), BitVec 32 ← k0_part482 i arg2 harg2 arg3 harg3 arg4 harg4 arg5 harg5 arg6 harg6 arg7 harg7 arg8 harg8 arg9 harg9 arg10 harg10 arg11 harg11 arg12 harg12 arg13 harg13 arg14 harg14 arg15 harg15 arg16 harg16 v12770 v12773 v12774 v12776 v12777
  let v17871 : FVec F S16x128 .bf16 ← k0_part483 i arg2 harg2 arg3 harg3 arg4 harg4 arg5 harg5 arg6 harg6 arg7 harg7 arg8 harg8 arg9 harg9 arg10 harg10 arg11 harg11 arg12 harg12 arg13 harg13 arg14 harg14 arg15 harg15 arg16 harg16 v15322 v15323 c63_i32_5782
  let ⟨v19527, v19530, v19538, v19540⟩ : Σ' (v19527 : FVec F S16x128 .f32) (v19530 : IVec S16x128 32) (v19538 : IVec S16x128 32), IVec S16x128 32 ← k0_part484 i arg2 harg2 arg3 harg3 arg4 harg4 arg5 harg5 arg6 harg6 arg7 harg7 arg8 harg8 arg9 harg9 arg10 harg10 arg11 harg11 arg12 harg12 arg13 harg13 arg14 harg14 arg15 harg15 arg16 harg16 v17871
  let v19551 : Vec F S16x128 .bf16 ← Prog.lift (.load arg11 (Rect.unit (s := S384x3584) ![368, 3456] S16x128.size inb_S384x3584_S16x128_368_3456).toLoadRect (View.loadsAt_vmem h_S16x128))
  Prog.lift (.store arg11 (Rect.unit (s := S384x3584) ![368, 3456] S16x128.size inb_S384x3584_S16x128_368_3456) (k0_pay2099 v19527 v19530 v19538 v19540) Finset.univ (View.stores_vmem h_S16x128 (harg11.storeExact_slice rfl _ packedbf16_S384x3584_S16x128_368_3456) (fun _ => rfl)) (.inl rfl))
  pure ⟨⟩

/-- The product step up to the block of maxima that it returns. -/
def product (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (k0_h4 : k0_cond4 i = 1#1) :
    Prog (TpuEff nD τ sig (Elt F) Λ₀ .tc) (FVec F S384x128 .f32) := do
  let arg0 : BitVec 32 := BitVec.ofNat 32 (i 0).val
  let arg1 : BitVec 32 := BitVec.ofNat 32 (i 1).val
  let v0 : BitVec 32 := Scalar.muli arg1 512#32
  let v1 : BitVec 32 := v0
  let v21 : Vec F S16x128 .bf16 ← Prog.lift (.load arg10 (Rect.unit (s := S16x128) ![0, 0] S16x128.size inb_S16x128_S16x128_0_0).toLoadRect (View.loadsAt_vmem h_S16x128))
  Scf.Loop.for k0_t1_loop (k0_t1_ok i k0_h4) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 k0_h4 v21)
  let v23 : Vec F S384x3584 .bf16 ← Prog.lift (.load arg11 (Rect.unit (s := S384x3584) ![0, 0] S384x3584.size inb_S384x3584_S384x3584_0_0).toLoadRect (View.loadsAt_vmem h_S384x3584))
  let v24 : Vec F S3584x512 .bf16 ← Prog.lift (.load arg13 (Rect.unit (s := S3584x512) ![0, 0] S3584x512.size inb_S3584x512_S3584x512_0_0).toLoadRect (View.loadsAt_vmem h_S3584x512))
  let v26 : Vec F S384x16 .bf16 ← Prog.lift (.load arg12 (Rect.unit (s := S384x16) ![0, 0] S384x16.size inb_S384x16_S384x16_0_0).toLoadRect (View.loadsAt_vmem h_S384x16))
  let v27 : Vec F S16x512 .bf16 ← Prog.lift (.load arg6 (Rect.unit (s := S16x512) ![0, 0] S16x512.size inb_S16x512_S16x512_0_0).toLoadRect (View.loadsAt_vmem h_S16x512))
  let v31 : Vec F S384x512 .bf16 ← Prog.lift (.load arg7 (Rect.unit (s := S384x512) ![0, 0] S384x512.size inb_S384x512_S384x512_0_0).toLoadRect (View.loadsAt_vmem h_S384x512))
  Prog.lift (.store arg7 (Rect.unit (s := S384x512) ![0, 0] S384x512.size inb_S384x512_S384x512_0_0) (k0_pay2102 v23 v24 v26 v27) Finset.univ (View.stores_vmem h_S384x512 (harg7.storeExact_slice rfl _ packedbf16_S384x512_S384x512_0_0) (fun _ => rfl)) (.inl rfl))
  let v33 : Vec F S384x512 .f32 ← Prog.lift (.load arg14 (Rect.unit (s := S384x18944) (k0_off26 i) S384x512.size (k0_off26_inb i k0_h4)).toLoadRect (View.loadsAt_vmem h_S384x512))
  Prog.lift (.store arg14 (Rect.unit (s := S384x18944) (k0_off26 i) S384x512.size (k0_off26_inb i k0_h4)) (k0_pay2103 v23 v24 v26 v27) Finset.univ (View.stores_vmem_bits_univ h_S384x512 rfl) (.inl rfl))
  let v36 : Vec F S384x128 .f32 ← Prog.lift (.load arg15 (Rect.unit (s := S384x128) ![0, 0] S384x128.size inb_S384x128_S384x128_0_0).toLoadRect (View.loadsAt_vmem h_S384x128))
  pure (k0_pay2104 v23 v24 v26 v27 v36)

/-- The step that dequantises one block of weights, multiplies, and stores the product and its maxima. -/
def region4 (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (k0_h4 : k0_cond4 i = 1#1) :
    Prog (TpuEff nD τ sig (Elt F) Λ₀ .tc) PUnit := do
  let arg0 : BitVec 32 := BitVec.ofNat 32 (i 0).val
  let arg1 : BitVec 32 := BitVec.ofNat 32 (i 1).val
  let v0 : BitVec 32 := Scalar.muli arg1 512#32
  let v1 : BitVec 32 := v0
  let v48 : FVec F S384x128 .f32 ← product i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h4
  let v49 : Vec F S384x128 .f32 ← Prog.lift (.load arg15 (Rect.unit (s := S384x128) ![0, 0] S384x128.size inb_S384x128_S384x128_0_0).toLoadRect (View.loadsAt_vmem h_S384x128))
  Prog.lift (.store arg15 (Rect.unit (s := S384x128) ![0, 0] S384x128.size inb_S384x128_S384x128_0_0) (k0_pay7 v48) Finset.univ (View.stores_vmem_bits_univ h_S384x128 rfl) (.inl rfl))
  pure ⟨⟩

/-- A conditional followed by the rest of the program is the conditional step, then the rest. -/
theorem seq_dite {E : Type → Type} {β : Type} {c : Prop} [Decidable c] {A : c → Prog E PUnit} {B : c → Prog E β} {X : Prog E β}
    {K : PUnit → Prog E β} (hA : ∀ h, B h = (A h >>= fun _ => X)) (hX : X = K ⟨⟩) :
    (if h : c then B h else X) = ((if h : c then A h else pure ⟨⟩) >>= K) := by
  by_cases h : c
  · rw [dif_pos h, dif_pos h, hA h, hX]
  · rw [dif_neg h, dif_neg h]; exact hX

/-- A program after a conditional is a program after each branch. -/
theorem dite_bind {E : Type → Type} {α β : Type} {c : Prop} [Decidable c] (A : c → Prog E α) (B : ¬ c → Prog E α) (K : α → Prog E β) :
    ((if h : c then A h else B h) >>= K) = (if h : c then A h >>= K else B h >>= K) := by
  by_cases h : c
  · rw [dif_pos h, dif_pos h]
  · rw [dif_neg h, dif_neg h]

/-- The conditions of the steps that the generated text names by their words alone. -/
abbrev first (i : grid0.Coords) : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The grid point is the first of its pass. -/
abbrev firstOfPass (i : grid0.Coords) : Prop := Scalar.cmpi .ne (Scalar.extui (Scalar.cmpi .eq (BitVec.ofNat 32 (i 1).val) 0#32) : BitVec 32) 0#32 = 1#1

/-- The product step at the first block of a pass is preceded by the permutation step. -/
def region54 (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (k0_h4 : k0_cond4 i = 1#1) : Prog (TpuEff nD τ sig (Elt F) Λ₀ .tc) PUnit :=
  (if h : firstOfPass i then region5 i arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩) >>= fun _ => region4 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h4

/-- The part before the last store is the permutation step, under its condition, and the product step. -/
theorem part539_eq (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (k0_h4 : k0_cond4 i = 1#1) :
    k0_part539 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Scalar.muli (BitVec.ofNat 32 (i 1).val) 512#32) k0_h4 =
      ((if h : firstOfPass i then region5 i arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩) >>= fun _ => product i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h4) := by
  rw [k0_part539_eq_skeleton]
  unfold k0_part539_skel
  dsimp only
  refine seq_dite (fun h5 => ?_) ?_
  · unfold region5
    dsimp only
    refine Eq.trans ?_ (bind_assoc _ _ _).symm
    refine bind_congr fun x => ?_
    obtain ⟨_, _⟩ := x
    try dsimp only
    refine Eq.trans ?_ (bind_assoc _ _ _).symm
    refine bind_congr fun x => ?_
    try dsimp only
    refine Eq.trans ?_ (bind_assoc _ _ _).symm
    refine bind_congr fun x => ?_
    obtain ⟨_, _⟩ := x
    try dsimp only
    refine Eq.trans ?_ (bind_assoc _ _ _).symm
    refine bind_congr fun x => ?_
    obtain ⟨_, _, _, _⟩ := x
    try dsimp only
    refine Eq.trans ?_ (bind_assoc _ _ _).symm
    refine bind_congr fun x => ?_
    obtain ⟨_, _, _, _, _⟩ := x
    try dsimp only
    refine Eq.trans ?_ (bind_assoc _ _ _).symm
    refine bind_congr fun x => ?_
    obtain ⟨_, _, _⟩ := x
    try dsimp only
    refine Eq.trans ?_ (bind_assoc _ _ _).symm
    refine bind_congr fun x => ?_
    try dsimp only
    refine Eq.trans ?_ (bind_assoc _ _ _).symm
    refine bind_congr fun x => ?_
    obtain ⟨_, _, _, _⟩ := x
    try dsimp only
    rfl
  · unfold product
    rfl

/-- The kernel body is its steps in sequence, each under its condition. -/
theorem body_eq (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) :
    cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
      ((if h : first i then region1 i arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩) >>= fun _ =>
      ((if h : k0_cond2 i = 1#1 then region2 i arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩) >>= fun _ =>
      ((if h : k0_cond3 i = 1#1 then region3 i arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩) >>= fun _ =>
      ((if h : k0_cond4 i = 1#1 then region54 i arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩) >>= fun _ => pure ⟨⟩)))) := by
  rw [cc0__body_eq_skeleton]
  unfold cc0__body_skel
  dsimp only
  refine seq_dite (fun h => ?_) ?_
  · unfold region1
    rfl
  refine seq_dite (fun h => ?_) ?_
  · unfold region2
    dsimp only
    refine Eq.trans ?_ (bind_assoc _ _ _).symm
    refine bind_congr fun x => ?_
    obtain ⟨_, _, _⟩ := x
    try dsimp only
    refine Eq.trans ?_ (bind_assoc _ _ _).symm
    refine bind_congr fun x => ?_
    obtain ⟨_, _⟩ := x
    try dsimp only
    rfl
  refine seq_dite (fun h => ?_) ?_
  · unfold region3
    dsimp only
    refine Eq.trans ?_ (bind_assoc _ _ _).symm
    refine bind_congr fun x => ?_
    try dsimp only
    refine Eq.trans ?_ (bind_assoc _ _ _).symm
    refine bind_congr fun x => ?_
    obtain ⟨_, _⟩ := x
    try dsimp only
    refine Eq.trans ?_ (bind_assoc _ _ _).symm
    refine bind_congr fun x => ?_
    obtain ⟨_, _⟩ := x
    try dsimp only
    refine Eq.trans ?_ (bind_assoc _ _ _).symm
    refine bind_congr fun x => ?_
    obtain ⟨_, _, _⟩ := x
    try dsimp only
    refine Eq.trans ?_ (bind_assoc _ _ _).symm
    refine bind_congr fun x => ?_
    obtain ⟨_, _⟩ := x
    try dsimp only
    refine Eq.trans ?_ (bind_assoc _ _ _).symm
    refine bind_congr fun x => ?_
    obtain ⟨_, _⟩ := x
    try dsimp only
    refine Eq.trans ?_ (bind_assoc _ _ _).symm
    refine bind_congr fun x => ?_
    obtain ⟨_, _⟩ := x
    try dsimp only
    refine Eq.trans ?_ (bind_assoc _ _ _).symm
    refine bind_congr fun x => ?_
    try dsimp only
    refine Eq.trans ?_ (bind_assoc _ _ _).symm
    refine bind_congr fun x => ?_
    obtain ⟨_, _⟩ := x
    try dsimp only
    refine Eq.trans ?_ (bind_assoc _ _ _).symm
    refine bind_congr fun x => ?_
    obtain ⟨_, _⟩ := x
    try dsimp only
    refine Eq.trans ?_ (bind_assoc _ _ _).symm
    refine bind_congr fun x => ?_
    obtain ⟨_, _⟩ := x
    try dsimp only
    refine Eq.trans ?_ (bind_assoc _ _ _).symm
    refine bind_congr fun x => ?_
    obtain ⟨_, _, _⟩ := x
    try dsimp only
    refine Eq.trans ?_ (bind_assoc _ _ _).symm
    refine bind_congr fun x => ?_
    try dsimp only
    refine Eq.trans ?_ (bind_assoc _ _ _).symm
    refine bind_congr fun x => ?_
    obtain ⟨_, _⟩ := x
    try dsimp only
    rfl
  refine seq_dite (fun h => ?_) rfl
  rw [part539_eq]
  unfold region54 region4
  refine (bind_assoc _ _ _).trans (Eq.trans ?_ (bind_assoc _ _ _).symm)
  refine bind_congr fun _ => ?_
  dsimp only
  refine Eq.trans ?_ (bind_assoc _ _ _).symm
  exact bind_congr fun _ => rfl

end Cert.Proof.Regions

end
-- ==== Proof.Tiles.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pointwise
public import Idealize.ShloMosaic.Lib.BitcastFour

@[expose] public section

set_option pp.maxSteps 300

noncomputable section

namespace Cert.Proof.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The column of the unpermuted row that stands in column `q` of a permuted one: within each run of 64 columns the four
    columns of a packed word are put 16 apart. -/
def perm (q : ℕ) : ℕ := q - q % 64 + (q % 64 % 16) / 2 * 8 + q % 2 * 4 + q % 64 / 16

theorem perm_lt (l : Fin 128) : perm l < 128 := by revert l; decide

/-- The word that selects the lane, as a number. -/
theorem permWord : ∀ l : Fin 128, (IntOp.addi (IntOp.addi (IntOp.addi (IntOp.subi (BitVec.ofNat 32 l) (IntOp.andi (BitVec.ofNat 32 l) 63#32))
    (IntOp.muli (IntOp.shrsi ArithUnit.vector (IntOp.andi (IntOp.andi (BitVec.ofNat 32 l) 63#32) 15#32) 1#32) 8#32))
    (IntOp.muli (IntOp.andi (IntOp.andi (BitVec.ofNat 32 l) 63#32) 1#32) 4#32))
    (IntOp.shrsi ArithUnit.vector (IntOp.andi (BitVec.ofNat 32 l) 63#32) 4#32)).toNat % 128 = perm l := by decide

/-- The permuted tile at an index: the tile at the permuted lane. -/
theorem permTile_apply (v : Vec Ideal S16x128 .bf16) (r : Fin 16) (l : Fin 128) :
    k0_pay77 v (ix2 r l) = v (ix2 r ⟨perm l, perm_lt l⟩) := by
  pointwise [k0_pay77]
  exact congrArg v (congrArg (ix2 r) (Fin.ext (permWord l)))

/-- One tile of sixteen dequantized rows, of the table `v`, the scales `a` (its row `o 0`), the packed words' bytes `b`
    and the nibble's shift `s`. -/
def dqTile (v : Vec F S16x128 .bf16) (a : Vec F S8x128 .f32) (b : Vec F S32x128 .i8) (o : Fin 2 → ℕ) (ho : S8x128.Slices o S1x128) (s : BitVec 32) :
    FVec F S16x128 .bf16 :=
  shapeCast S16x128 (dynamicGather 0
    (mulf v (truncf .bf16 (broadcastTo S16x128 (shapeCast S1x128 (extractStridedSlice S1x128 o a ho) shapeCasts_S1x128_S1x128) broadcasts_S1x128_S16x128) bitsLt_bf16_f32) : FVec F S16x128 .bf16)
    (shapeCast S16x128 (shapeCast S16x128x1 (extui 32 (bitcast S16x128 16 (andi (shrui (bitcast S8x128 32 b bitcasts_S32x128_w8_S8x128_w32 : IVec S8x128 32) (broadcast S8x128 s)) (broadcast S8x128 983055#32))
      bitcasts_S8x128_w32_S16x128_w16) natLt_16_32) shapeCasts_S16x128_S16x128x1) shapeCasts_S16x128x1_S16x128)) shapeCasts_S16x128_S16x128

/-- The nibble taken from the packed words at an index, as a number. -/
theorem nibble (b : Vec Ideal S32x128 .i8) (p : Fin 4) (r : Fin 16) (l : Fin 128) :
    (BitVec.setWidth 32 (bitcast S16x128 16 (andi (shrui (bitcast S8x128 32 b bitcasts_S32x128_w8_S8x128_w32 : IVec S8x128 32) (broadcast S8x128 (BitVec.ofNat 32 (4 * p)))) (broadcast S8x128 983055#32))
      bitcasts_S8x128_w32_S16x128_w16 (ix2 r l))).toNat % 16
      = (b (ix2 ⟨4 * (r.val / 2) + 2 * (r.val % 2) + p.val / 2, by omega⟩ l)).toNat / 2 ^ (4 * (p.val % 2)) % 16 := by
  have hm : ∀ i < 4, ∀ h < 2, (983055#32).getLsbD (16 * h + i) = true := by decide
  apply Nat.eq_of_testBit_eq
  intro i
  have e : ∀ n : ℕ, (n % 16).testBit i = (decide (i < 4) && n.testBit i) := fun n => Nat.testBit_mod_two_pow n 4 i
  rw [e, e]
  by_cases hi : i < 4
  swap; · simp [hi]
  simp only [hi, decide_true, Bool.true_and]
  rw [Nat.testBit_div_two_pow, ← BitVec.getLsbD, ← BitVec.getLsbD, BitVec.getLsbD_setWidth, bitcast_getLsbD _ _ _ i (by omega) (by decide)]
  rw [show ∀ (h : _), (bitcasts_S8x128_w32_S16x128_w16 : S8x128.Bitcasts 32 S16x128 16).srcIdx (ix2 r l) ((S16x128.row (ix2 r l) * 16 + i) / 32) h = (ix2 ⟨r.val / 2, by omega⟩ l : S8x128.Idx) from fun h => by
    funext a
    match a with
    | ⟨0, _⟩ => exact Fin.ext ((Shape.Bitcasts.srcIdx_row _ _ _ h ⟨0, Nat.zero_lt_two⟩ rfl).trans (by rw [show S16x128.row (ix2 r l) = r.val from rfl]; show _ = r.val / 2; omega))
    | ⟨1, _⟩ => exact Fin.ext (Shape.Bitcasts.srcIdx_other _ _ _ h ⟨1, Nat.one_lt_two⟩ (by show ¬ 1 + 2 = 2; omega))]
  have hrow : (S16x128.row (ix2 r l) * 16 + i) % 32 = 16 * (r.val % 2) + i := by
    rw [show S16x128.row (ix2 r l) = r.val from rfl]; omega
  rw [hrow, decide_eq_true (show i < 32 by omega), Bool.true_and]
  have hp : (BitVec.ofNat 32 (4 * p)).toNat = 4 * p.val := by rw [BitVec.toNat_ofNat, Nat.mod_eq_of_lt (by omega)]
  show (IntOp.andi (IntOp.shrui .vector _ (BitVec.ofNat 32 (4 * p))) 983055#32).getLsbD _ = _
  unfold IntOp.andi IntOp.shrui
  rw [if_pos (show (BitVec.ofNat 32 (4 * p)).toNat < 32 by omega), BitVec.getLsbD_and, hm i hi _ (Nat.mod_lt _ (by omega)), Bool.and_true,
    BitVec.ushiftRight_eq', BitVec.getLsbD_ushiftRight, hp]
  rw [show i + 4 * (p.val % 2) = (4 * p.val + (16 * (r.val % 2) + i)) % 8 by omega]
  exact bitcast_8_32_getLsbD_ix2 (R := 32) (r := 8) (n := 128) b bitcasts_S32x128_w8_S8x128_w32 ⟨r.val / 2, by omega⟩ l _ (by omega)
    ⟨4 * (r.val / 2) + 2 * (r.val % 2) + p.val / 2, by omega⟩ (show 4 * (r.val / 2) + 2 * (r.val % 2) + p.val / 2 = 4 * (r.val / 2) + (4 * p.val + (16 * (r.val % 2) + i)) / 8 by omega)

/-- The dequantized tile at an index: the table's entry at the nibble, times the scale. -/
theorem dqTile_apply (v : Vec Ideal S16x128 .bf16) (a : Vec Ideal S8x128 .f32) (b : Vec Ideal S32x128 .i8) (i : Fin 8) (ho : S8x128.Slices ![i, 0] S1x128) (p : Fin 4)
    (r : Fin 16) (l : Fin 128) :
    dqTile v a b ![i, 0] ho (BitVec.ofNat 32 (4 * p)) (ix2 r l)
      = v (ix2 ⟨(b (ix2 ⟨4 * (r.val / 2) + 2 * (r.val % 2) + p.val / 2, by omega⟩ l)).toNat / 2 ^ (4 * (p.val % 2)) % 16, Nat.mod_lt _ (by omega)⟩ l) * a (ix2 i l) := by
  pointwise [dqTile]
  refine congrArg (fun k => v (ix2 k l) * a (ix2 i l)) (Fin.ext ?_)
  exact nibble b p r l

end Cert.Proof.Tiles

end
-- ==== Proof.RunCodes.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Regions
public import Idealize.ShloMosaic.Lib.VecWindow
public import Idealize.ShloMosaic.Lib.Pointwise
public import Idealize.ShloMosaic.Lib.Pipeline.ReadBack

@[expose] public section

set_option pp.maxSteps 2000

noncomputable section

namespace Cert.Proof.RunCodes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Proof.Regions

variable {F : FTy → Type} [FloatOps F]

local notation "𝕄" => MT nD τ sig Unit (Elt F) ℕ (UR sig nD τ) ℕ

/-- One output code, of a product and its row's inverse scale. -/
def code (y s : F .f32) : F .fp8e4m3 := k0_pay6 (fun _ => s) (fun _ => y) (ix2 0 0)

/-- The block of codes: each product of the row buffer's current columns times its row's inverse scale, cut to the format's
    range. -/
def codes (i : grid0.Coords) (y : Vec F S384x18944 .f32) (s : Vec F S384x128 .f32) : Vec F S384x512 .fp8e4m3 := fun z =>
  code (y (ix2 (z 0) ⟨(512 * (i 1).val + (z 1).val) % 18944, Nat.mod_lt _ (by omega)⟩)) (s (ix2 (z 0) ⟨(z 1).val % 128, Nat.mod_lt _ (by omega)⟩))

/-- The stored tile at a row and column is that part of the block. -/
theorem codeTile (i : grid0.Coords) {sp sp'} (v14 : View sig .tc sp S384x18944 .f32) (v16 : View sig .tc sp' S384x128 .f32) (f14 : v14.ty.Contents (Elt F)) (f16 : v16.ty.Contents (Elt F))
    (R C : ℕ) (w : BitVec 32) (hw : w.toNat = C) (hC : C % 128 = 0 ∧ C < 512)
    (h16 : ∀ a, (![R, 0] : Fin 2 → ℕ) a + S32x128.size a ≤ S384x128.size a)
    (h14 : ∀ a, (![R, (Scalar.indexCast (Scalar.addi (Scalar.muli (BitVec.ofNat 32 (i 1).val) 512#32) w)).toNat] : Fin 2 → ℕ) a + S32x128.size a ≤ S384x18944.size a)
    (h : ∀ a, (![R, C] : Fin 2 → ℕ) a + S32x128.size a ≤ S384x512.size a) (x : S32x128.Idx) :
    k0_pay6 (v16.readAt (Elt F) (Rect.unit (s := S384x128) ![R, 0] S32x128.size h16).toLoadRect f16)
        (v14.readAt (Elt F) (Rect.unit (s := S384x18944) ![R, (Scalar.indexCast (Scalar.addi (Scalar.muli (BitVec.ofNat 32 (i 1).val) 512#32) w)).toNat] S32x128.size h14).toLoadRect f14) x
      = codes i (v14.read (Elt F) f14) (v16.read (Elt F) f16) ((Rect.unit (s := S384x512) ![R, C] S32x128.size h).emb x) := by
  have hi : (i 1).val < 37 := (i 1).isLt
  have h1 : (x 1).val < 128 := (x 1).isLt
  have e : (Scalar.indexCast (Scalar.addi (Scalar.muli (BitVec.ofNat 32 (i 1).val) 512#32) w)).toNat = 512 * (i 1).val + C := by
    show (BitVec.ofNat 32 (i 1).val * 512#32 + w).toNat = _
    rw [BitVec.toNat_add, BitVec.toNat_mul, BitVec.toNat_ofNat, hw]
    simp; omega
  refine (show _ = code (v14.readAt (Elt F) (Rect.unit (s := S384x18944) ![R, (Scalar.indexCast (Scalar.addi (Scalar.muli (BitVec.ofNat 32 (i 1).val) 512#32) w)).toNat] S32x128.size h14).toLoadRect f14 x)
    (v16.readAt (Elt F) (Rect.unit (s := S384x128) ![R, 0] S32x128.size h16).toLoadRect f16 x) from rfl).trans ?_
  unfold codes
  refine congrArg₂ code (congrArg (v14.read (Elt F) f14) ?_) (congrArg (v16.read (Elt F) f16) ?_)
  · funext a
    match a with
    | ⟨0, _⟩ => rfl
    | ⟨1, _⟩ => exact Fin.ext (by
        show (Scalar.indexCast (Scalar.addi (Scalar.muli (BitVec.ofNat 32 (i 1).val) 512#32) w)).toNat + 1 * (x 1).val = (512 * (i 1).val + (C + 1 * (x 1).val)) % 18944
        omega)
  · funext a
    match a with
    | ⟨0, _⟩ => rfl
    | ⟨1, _⟩ => exact Fin.ext (by
        show 0 + 1 * (x 1).val = (C + 1 * (x 1).val) % 128
        omega)

theorem piece {s : Shape} {e : EltTy} {G : s.Idx → Elt F e} {r : Rect s} {w : r.shape.Idx → Elt F e} {L : List (View.Piece (Elt F) s e)} (h : ∀ x, w x = G (r.emb x))
    (hL : View.PiecesOf G L) : View.PiecesOf G (⟨r, w⟩ :: L) := ⟨h, hL⟩

set_option maxHeartbeats 4000000 in
/-- The step that writes the codes: it leaves the block of codes, the row buffer and the inverse scales as they were. -/
theorem run (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (h : k0_cond3 i = 1#1)
    (x14 : Vec F S384x18944 .f32) (x16 : Vec F S384x128 .f32) (K : PUnit → sProp 𝕄) :
    iprop(owns (c : Thread nD τ) arg14 fullShare x14 ∗ owns (c : Thread nD τ) arg16 fullShare x16 ∗ (∃ x, owns (c : Thread nD τ) arg8 fullShare x)
        ∗ (iprop(owns (c : Thread nD τ) arg14 fullShare x14 ∗ owns (c : Thread nD τ) arg16 fullShare x16 ∗ owns (c : Thread nD τ) arg8 fullShare (codes i x14 x16)) -∗ K ⟨⟩))
      ⊢ wp frame (wpE (defs₀ (F := F)) Variants.none c none) E (region3 i arg2 harg2 arg3 harg3 arg4 harg4 arg5 harg5 arg6 harg6 arg7 harg7 arg8 harg8 arg9 harg9 arg10 harg10 arg11 harg11 arg12 harg12 arg13 harg13 arg14 harg14 arg15 harg15 arg16 harg16 h) K := by
  unfold owns
  iintro ⟨⟨%f14, %hf14, H14⟩, ⟨%f16, %hf16, H16⟩, ⟨%d8, %f8, -, H8⟩, Hk⟩
  unfold region3
  sl_exec_parts
  sl_step
  iapply Hk
  isplitl [H14]
  · iexists f14; isplitr; · ipureintro; exact hf14
    iexact H14
  isplitl [H16]
  · iexists f16; isplitr; · ipureintro; exact hf16
    iexact H16
  iexists _; isplitr
  swap; · iexact H8
  ipureintro
  funext y
  rw [← hf14, ← hf16]
  refine View.read_writes_apply_of_pieces _ _ _ _ (View.PiecesOf.mem ?_) y ?_
  swap; · exact View.cover_of_tiled (s := S384x512) _ ![32, 128] (by rfl) y
  iterate 12
    refine piece (codeTile i _ _ _ _ _ 384 384#32 rfl (by decide) _ _ _) ?_
    refine piece (codeTile i _ _ _ _ _ 256 256#32 rfl (by decide) _ _ _) ?_
    refine piece (codeTile i _ _ _ _ _ 128 128#32 rfl (by decide) _ _ _) ?_
    refine piece (codeTile i _ _ _ _ _ 0 0#32 rfl (by decide) _ _ _) ?_
  trivial

end Cert.Proof.RunCodes

end
-- ==== Proof.Dequant.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Regions
public import Idealize.ShloMosaic.Lib.VecWindow
public import Idealize.ShloMosaic.Lib.Pointwise
public import Idealize.ShloMosaic.Lib.Pipeline.ReadBack
public import proofs.«01_k».proof.Proof.Tiles
public import proofs.«01_k».proof.Proof.RunCodes

@[expose] public section

set_option pp.maxSteps 2000

noncomputable section

namespace Cert.Proof.Dequant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Proof.Regions Cert.Proof.Tiles Cert.Proof.RunCodes

variable {F : FTy → Type} [FloatOps F]

local notation "𝕄" => MT nD τ sig Unit (Elt F) ℕ (UR sig nD τ) ℕ

/-- The slices of one row of the absolute maxima that the tiles take. -/
theorem rowSlices : ∀ i : Fin 8, S8x128.Slices ![i.val, 0] S1x128 := by decide

/-- A block of weights dequantised: 3584 rows by 512 columns, of the table `v`, the block's absolute maxima `a` and its
    packed words' bytes `b`, tile by tile. -/
def weights (v : Vec F S16x128 .bf16) (a : Vec F S56x512 .f32) (b : Vec F S1792x512 .i8) : Vec F S3584x512 .bf16 := fun y =>
  dqTile v
    (fun z : S8x128.Idx => a (ix2 ⟨(8 * ((y 0).val / 512) + (z 0).val) % 56, Nat.mod_lt _ (by omega)⟩ ⟨(128 * ((y 1).val / 128) + (z 1).val) % 512, Nat.mod_lt _ (by omega)⟩))
    (fun z : S32x128.Idx => b (ix2 ⟨(32 * ((y 0).val / 64) + (z 0).val) % 1792, Nat.mod_lt _ (by omega)⟩ ⟨(128 * ((y 1).val / 128) + (z 1).val) % 512, Nat.mod_lt _ (by omega)⟩))
    ![((y 0).val / 64) % 8, 0] (rowSlices ⟨((y 0).val / 64) % 8, Nat.mod_lt _ (by omega)⟩) (BitVec.ofNat 32 (4 * ((y 0).val % 64 / 16)))
    (ix2 ⟨(y 0).val % 16, Nat.mod_lt _ (by omega)⟩ ⟨(y 1).val % 128, Nat.mod_lt _ (by omega)⟩)

/-- Where the tile numbered `n` of a trip is stored. -/
theorem store_row : ∀ (k : Fin k0_t1_loop.trips) (n : Fin 128),
    (Scalar.indexCast (Scalar.addi (Scalar.muli (Scalar.addi (Scalar.muli (Scf.iv 0#32 1#32 k.val) 8#32) (BitVec.ofNat 32 (n.val / 4 % 8))) 64#32) (BitVec.ofNat 32 (16 * (n.val % 4))))).toNat
      = 64 * (8 * k.val + n.val / 4 % 8) + 16 * (n.val % 4) := by decide +kernel

/-- Where its packed words lie. -/
theorem word_row : ∀ (k : Fin k0_t1_loop.trips) (n : Fin 128),
    (Scalar.indexCast (Scalar.muli (Scalar.addi (Scalar.muli (Scf.iv 0#32 1#32 k.val) 8#32) (BitVec.ofNat 32 (n.val / 4 % 8))) 32#32)).toNat
      = 32 * (8 * k.val + n.val / 4 % 8) := by decide +kernel

/-- Where its absolute maxima lie. -/
theorem scale_row : ∀ (k : Fin k0_t1_loop.trips),
    (Scalar.indexCast (Scalar.muli (Scf.iv 0#32 1#32 k.val) 8#32)).toNat = 8 * k.val := by decide +kernel

/-- The number of the tile, within its trip, that holds an index of the block. -/
def tileOf (y : S3584x512.Idx) : ℕ := (y 1).val / 128 * 32 + (y 0).val % 512 / 16

/-- A stored piece is a tile of `G`, and it holds every index of trip `k` that tile `n` holds. -/
def Good (G : Vec F S3584x512 .bf16) (k : ℕ) (q : View.Piece (Elt F) S3584x512 .bf16) (n : ℕ) : Prop :=
  (∀ x, q.2 x = G (q.1.emb x)) ∧ ∀ y : S3584x512.Idx, (y 0).val / 512 = k → tileOf y = n → y ∈ q.1.set

/-- The pieces of a list are the tiles below `n` of trip `k`, last first. -/
def Trip (G : Vec F S3584x512 .bf16) (k : ℕ) : List (View.Piece (Elt F) S3584x512 .bf16) → ℕ → Prop
  | [], n => n = 0
  | q :: L, n => ∃ m, n = m + 1 ∧ Good G k q m ∧ Trip G k L m

theorem Trip.cons {G : Vec F S3584x512 .bf16} {k : ℕ} {q : View.Piece (Elt F) S3584x512 .bf16} {L : List (View.Piece (Elt F) S3584x512 .bf16)} {n : ℕ}
    (h : Good G k q n) (hL : Trip G k L n) : Trip G k (q :: L) (n + 1) := ⟨n, rfl, h, hL⟩

theorem Trip.pieces {G : Vec F S3584x512 .bf16} {k : ℕ} : ∀ {L : List (View.Piece (Elt F) S3584x512 .bf16)} {n : ℕ}, Trip G k L n →
    ∀ q ∈ L, ∀ x, q.2 x = G (q.1.emb x)
  | [], _, _, q, hq => absurd hq List.not_mem_nil
  | p :: L, n, h, q, hq => by
    obtain ⟨m, hm, hp, hL⟩ := h
    rcases List.mem_cons.1 hq with rfl | hq
    · exact hp.1
    · exact hL.pieces q hq

theorem Trip.cover {G : Vec F S3584x512 .bf16} {k : ℕ} {y : S3584x512.Idx} (hy : (y 0).val / 512 = k) :
    ∀ {L : List (View.Piece (Elt F) S3584x512 .bf16)} {n : ℕ}, Trip G k L n → tileOf y < n → ∃ q ∈ L, y ∈ q.1.set
  | [], n, h, hn => absurd hn (by rw [show n = 0 from h]; exact Nat.not_lt_zero _)
  | p :: L, n, h, hn => by
    obtain ⟨m, hm, hp, hL⟩ := h
    by_cases he : tileOf y = m
    · exact ⟨p, List.mem_cons_self, hp.2 y hy he⟩
    · obtain ⟨q, hq, hs⟩ := hL.cover hy (by omega)
      exact ⟨q, List.mem_cons_of_mem _ hq, hs⟩

/-- The tile numbered `n` of trip `k`, as the trip stores it, is that tile of the dequantised weights. -/
theorem good (k : Fin k0_t1_loop.trips) (n : ℕ) (hn : n < 128) {sp sp'} (v4 : View sig .tc sp S56x512 .f32) (v3 : View sig .tc sp' S1792x512 .i8) (f4 : v4.ty.Contents (Elt F)) (f3 : v3.ty.Contents (Elt F))
    (v : Vec F S16x128 .bf16)
    (h4 : ∀ a, (![(Scalar.indexCast (Scalar.muli (Scf.iv 0#32 1#32 k.val) 8#32)).toNat, 128 * (n / 32)] : Fin 2 → ℕ) a + S8x128.size a ≤ S56x512.size a)
    (h3 : ∀ a, (![(Scalar.indexCast (Scalar.muli (Scalar.addi (Scalar.muli (Scf.iv 0#32 1#32 k.val) 8#32) (BitVec.ofNat 32 (n / 4 % 8))) 32#32)).toNat, 128 * (n / 32)] : Fin 2 → ℕ) a + S32x128.size a ≤ S1792x512.size a)
    (h : ∀ a, (![(Scalar.indexCast (Scalar.addi (Scalar.muli (Scalar.addi (Scalar.muli (Scf.iv 0#32 1#32 k.val) 8#32) (BitVec.ofNat 32 (n / 4 % 8))) 64#32) (BitVec.ofNat 32 (16 * (n % 4))))).toNat, 128 * (n / 32)] : Fin 2 → ℕ) a + S16x128.size a ≤ S3584x512.size a)
    (ho : S8x128.Slices ![n / 4 % 8, 0] S1x128) :
    Good (weights v (v4.read (Elt F) f4) (v3.read (Elt F) f3)) k.val
      ⟨Rect.unit (s := S3584x512) ![(Scalar.indexCast (Scalar.addi (Scalar.muli (Scalar.addi (Scalar.muli (Scf.iv 0#32 1#32 k.val) 8#32) (BitVec.ofNat 32 (n / 4 % 8))) 64#32) (BitVec.ofNat 32 (16 * (n % 4))))).toNat, 128 * (n / 32)] S16x128.size h,
        dqTile v (v4.readAt (Elt F) (Rect.unit (s := S56x512) ![(Scalar.indexCast (Scalar.muli (Scf.iv 0#32 1#32 k.val) 8#32)).toNat, 128 * (n / 32)] S8x128.size h4).toLoadRect f4)
          (v3.readAt (Elt F) (Rect.unit (s := S1792x512) ![(Scalar.indexCast (Scalar.muli (Scalar.addi (Scalar.muli (Scf.iv 0#32 1#32 k.val) 8#32) (BitVec.ofNat 32 (n / 4 % 8))) 32#32)).toNat, 128 * (n / 32)] S32x128.size h3).toLoadRect f3)
          ![n / 4 % 8, 0] ho (BitVec.ofNat 32 (4 * (n % 4)))⟩ n := by
  have hk : k.val < 7 := Nat.lt_of_lt_of_le k.isLt k0_t1_abs.2.1
  have er := store_row k ⟨n, hn⟩
  have ew := word_row k ⟨n, hn⟩
  have es := scale_row k
  dsimp only at er ew
  generalize (Scalar.indexCast (Scalar.addi (Scalar.muli (Scalar.addi (Scalar.muli (Scf.iv 0#32 1#32 k.val) 8#32) (BitVec.ofNat 32 (n / 4 % 8))) 64#32) (BitVec.ofNat 32 (16 * (n % 4))))).toNat = R at h er ⊢
  generalize (Scalar.indexCast (Scalar.muli (Scalar.addi (Scalar.muli (Scf.iv 0#32 1#32 k.val) 8#32) (BitVec.ofNat 32 (n / 4 % 8))) 32#32)).toNat = W at h3 ew ⊢
  generalize (Scalar.indexCast (Scalar.muli (Scf.iv 0#32 1#32 k.val) 8#32)).toNat = A at h4 es ⊢
  refine ⟨fun x => ?_, fun y hy hn' => ?_⟩
  · have h0 : (x 0).val < 16 := (x 0).isLt
    have h1 : (x 1).val < 128 := (x 1).isLt
    have e0 : (((Rect.unit (s := S3584x512) ![R, 128 * (n / 32)] S16x128.size h).emb x) 0).val = R + (x 0).val := by
      show R + 1 * (x 0).val = _; omega
    have e1 : (((Rect.unit (s := S3584x512) ![R, 128 * (n / 32)] S16x128.size h).emb x) 1).val = 128 * (n / 32) + (x 1).val := by
      show 128 * (n / 32) + 1 * (x 1).val = _; omega
    generalize ((Rect.unit (s := S3584x512) ![R, 128 * (n / 32)] S16x128.size h).emb x) = y at e0 e1
    unfold weights
    have q1 : (y 0).val / 512 = k.val := by omega
    have q2 : (y 1).val / 128 = n / 32 := by omega
    have q3 : (y 0).val / 64 = 8 * k.val + n / 4 % 8 := by omega
    have q4 : (y 0).val % 64 / 16 = n % 4 := by omega
    have q5 : (y 0).val / 64 % 8 = n / 4 % 8 := by omega
    have ex : (ix2 ⟨(y 0).val % 16, Nat.mod_lt _ (by omega)⟩ ⟨(y 1).val % 128, Nat.mod_lt _ (by omega)⟩ : S16x128.Idx) = x := by
      funext a
      match a with
      | 0 => exact Fin.ext (show (y 0).val % 16 = (x 0).val by omega)
      | 1 => exact Fin.ext (show (y 1).val % 128 = (x 1).val by omega)
    rw [ex]
    have ea : (v4.readAt (Elt F) (Rect.unit (s := S56x512) ![A, 128 * (n / 32)] S8x128.size h4).toLoadRect f4)
        = (fun z : S8x128.Idx => v4.read (Elt F) f4 (ix2 ⟨(8 * ((y 0).val / 512) + (z 0).val) % 56, Nat.mod_lt _ (by omega)⟩ ⟨(128 * ((y 1).val / 128) + (z 1).val) % 512, Nat.mod_lt _ (by omega)⟩)) := by
      funext z
      have z0 : (z 0).val < 8 := (z 0).isLt
      have z1 : (z 1).val < 128 := (z 1).isLt
      refine congrArg (v4.read (Elt F) f4) ?_
      funext a
      match a with
      | 0 => exact Fin.ext (show A + 1 * (z 0).val = (8 * ((y 0).val / 512) + (z 0).val) % 56 by omega)
      | 1 => exact Fin.ext (show 128 * (n / 32) + 1 * (z 1).val = (128 * ((y 1).val / 128) + (z 1).val) % 512 by omega)
    have eb : (v3.readAt (Elt F) (Rect.unit (s := S1792x512) ![W, 128 * (n / 32)] S32x128.size h3).toLoadRect f3)
        = (fun z : S32x128.Idx => v3.read (Elt F) f3 (ix2 ⟨(32 * ((y 0).val / 64) + (z 0).val) % 1792, Nat.mod_lt _ (by omega)⟩ ⟨(128 * ((y 1).val / 128) + (z 1).val) % 512, Nat.mod_lt _ (by omega)⟩)) := by
      funext z
      have z0 : (z 0).val < 32 := (z 0).isLt
      have z1 : (z 1).val < 128 := (z 1).isLt
      refine congrArg (v3.read (Elt F) f3) ?_
      funext a
      match a with
      | 0 => exact Fin.ext (show W + 1 * (z 0).val = (32 * ((y 0).val / 64) + (z 0).val) % 1792 by omega)
      | 1 => exact Fin.ext (show 128 * (n / 32) + 1 * (z 1).val = (128 * ((y 1).val / 128) + (z 1).val) % 512 by omega)
    rw [← ea, ← eb]
    simp only [q4, q5]
  · unfold tileOf at hn'
    have y0 : (y 0).val < 3584 := (y 0).isLt
    have y1 : (y 1).val < 512 := (y 1).isLt
    show y ∈ (Rect.unit (s := S3584x512) ![R, 128 * (n / 32)] S16x128.size h).set
    rw [Rect.mem_set_unit]
    intro a
    match a with
    | 0 => show R ≤ (y 0).val ∧ (y 0).val < R + 16; omega
    | 1 => show 128 * (n / 32) ≤ (y 1).val ∧ (y 1).val < 128 * (n / 32) + 128; omega

/-- The same, for a stored block given by its offsets and its equation. -/
theorem goodOf (k : Fin k0_t1_loop.trips) (n : ℕ) (hn : n < 128) {sp sp'} (v4 : View sig .tc sp S56x512 .f32) (v3 : View sig .tc sp' S1792x512 .i8) (f4 : v4.ty.Contents (Elt F)) (f3 : v3.ty.Contents (Elt F))
    (v : Vec F S16x128 .bf16) (o4 o3 o : Fin 2 → ℕ) (w : Vec F S16x128 .bf16) (h : ∀ a, o a + S16x128.size a ≤ S3584x512.size a)
    (e4 : o4 = ![(Scalar.indexCast (Scalar.muli (Scf.iv 0#32 1#32 k.val) 8#32)).toNat, 128 * (n / 32)])
    (e3 : o3 = ![(Scalar.indexCast (Scalar.muli (Scalar.addi (Scalar.muli (Scf.iv 0#32 1#32 k.val) 8#32) (BitVec.ofNat 32 (n / 4 % 8))) 32#32)).toNat, 128 * (n / 32)])
    (e : o = ![(Scalar.indexCast (Scalar.addi (Scalar.muli (Scalar.addi (Scalar.muli (Scf.iv 0#32 1#32 k.val) 8#32) (BitVec.ofNat 32 (n / 4 % 8))) 64#32) (BitVec.ofNat 32 (16 * (n % 4))))).toNat, 128 * (n / 32)])
    (hw : ∀ h4 h3, w = dqTile v (v4.readAt (Elt F) (Rect.unit (s := S56x512) o4 S8x128.size h4).toLoadRect f4)
          (v3.readAt (Elt F) (Rect.unit (s := S1792x512) o3 S32x128.size h3).toLoadRect f3)
          ![n / 4 % 8, 0] (rowSlices ⟨n / 4 % 8, Nat.mod_lt _ (by omega)⟩) (BitVec.ofNat 32 (4 * (n % 4)))) :
    Good (weights v (v4.read (Elt F) f4) (v3.read (Elt F) f3)) k.val ⟨Rect.unit (s := S3584x512) o S16x128.size h, w⟩ n := by
  have hk : k.val < 7 := Nat.lt_of_lt_of_le k.isLt k0_t1_abs.2.1
  have ew := word_row k ⟨n, hn⟩
  have es := scale_row k
  dsimp only at ew
  subst e4 e3 e
  have h4 : ∀ a, (![(Scalar.indexCast (Scalar.muli (Scf.iv 0#32 1#32 k.val) 8#32)).toNat, 128 * (n / 32)] : Fin 2 → ℕ) a + S8x128.size a ≤ S56x512.size a := by
    rw [es]
    intro a
    match a with
    | 0 => show 8 * k.val + 8 ≤ 56; omega
    | 1 => show 128 * (n / 32) + 128 ≤ 512; omega
  have h3 : ∀ a, (![(Scalar.indexCast (Scalar.muli (Scalar.addi (Scalar.muli (Scf.iv 0#32 1#32 k.val) 8#32) (BitVec.ofNat 32 (n / 4 % 8))) 32#32)).toNat, 128 * (n / 32)] : Fin 2 → ℕ) a + S32x128.size a ≤ S1792x512.size a := by
    rw [ew]
    intro a
    match a with
    | 0 => show 32 * (8 * k.val + n / 4 % 8) + 32 ≤ 1792; omega
    | 1 => show 128 * (n / 32) + 128 ≤ 512; omega
  rw [hw h4 h3]
  exact good k n hn v4 v3 f4 f3 v h4 h3 h _

set_option maxHeartbeats 8000000 in
/-- One trip stores the 128 tiles of its rows. -/
theorem trip (𝒱 : Variants) (c : Dev nD) (bd : Option 𝒱.V) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (arg1 : BitVec 32) (v1 : BitVec 32) (k0_h4 : k0_cond4 i = 1#1) (v21 : Vec F S16x128 .bf16) (X_arg3 : BufTy.Contents (Elt F) arg3.view.ty) (X_arg4 : BufTy.Contents (Elt F) arg4.view.ty) (k : Fin k0_t1_loop.trips) :
    Trip (weights v21 (arg4.view.read (Elt F) X_arg4) (arg3.view.read (Elt F) X_arg3)) k.val (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 k0_h4 v21 X_arg3 X_arg4 k) 128 := by
  unfold tripL_k0_t1 trip_k0_t1
  dsimp only
  iterate 32 refine Trip.cons (goodOf k _ (by decide) arg4.view arg3.view X_arg4 X_arg3 v21 (k0_off23 k) (k0_off24 k (BitVec.ofNat 32 (_ / 4 % 8))) _ _ _ rfl rfl rfl (fun _ _ => rfl)) ?_
  iterate 32 refine Trip.cons (goodOf k _ (by decide) arg4.view arg3.view X_arg4 X_arg3 v21 (k0_off20 k) (k0_off21 k (BitVec.ofNat 32 (_ / 4 % 8))) _ _ _ rfl rfl rfl (fun _ _ => rfl)) ?_
  iterate 32 refine Trip.cons (goodOf k _ (by decide) arg4.view arg3.view X_arg4 X_arg3 v21 (k0_off17 k) (k0_off18 k (BitVec.ofNat 32 (_ / 4 % 8))) _ _ _ rfl rfl rfl (fun _ _ => rfl)) ?_
  iterate 32 refine Trip.cons (goodOf k _ (by decide) arg4.view arg3.view X_arg4 X_arg3 v21 (k0_off14 k) (k0_off15 k (BitVec.ofNat 32 (_ / 4 % 8))) _ _ _ rfl rfl rfl (fun _ _ => rfl)) ?_
  rfl

/-- The pieces of the trips before `k` are tiles of the dequantised weights, and hold every index of those trips' rows. -/
theorem trips (𝒱 : Variants) (c : Dev nD) (bd : Option 𝒱.V) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (arg1 : BitVec 32) (v1 : BitVec 32) (k0_h4 : k0_cond4 i = 1#1) (v21 : Vec F S16x128 .bf16) (X_arg3 : BufTy.Contents (Elt F) arg3.view.ty) (X_arg4 : BufTy.Contents (Elt F) arg4.view.ty) :
    ∀ k ≤ k0_t1_loop.trips,
    (∀ q ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 k0_h4 v21 X_arg3 X_arg4 k, ∀ x, q.2 x = weights v21 (arg4.view.read (Elt F) X_arg4) (arg3.view.read (Elt F) X_arg3) (q.1.emb x))
      ∧ ∀ y : S3584x512.Idx, (y 0).val / 512 < k → ∃ q ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 k0_h4 v21 X_arg3 X_arg4 k, y ∈ q.1.set
  | 0, _ => ⟨fun q hq => absurd hq List.not_mem_nil, fun y hy => absurd hy (Nat.not_lt_zero _)⟩
  | k + 1, hk => by
    have ih := trips 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 k0_h4 v21 X_arg3 X_arg4 k (by omega)
    have ht := trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 k0_h4 v21 X_arg3 X_arg4 ⟨k, hk⟩
    rw [pb_k0_t1_succ (k := ⟨k, hk⟩)]
    refine ⟨fun q hq => ?_, fun y hy => ?_⟩
    · rcases List.mem_append.1 hq with hq | hq
      · exact ht.pieces q hq
      · exact ih.1 q hq
    · by_cases h : (y 0).val / 512 = k
      · have y1 : (y 1).val < 512 := (y 1).isLt
        obtain ⟨q, hq, hs⟩ := ht.cover h (by unfold tileOf; omega)
        exact ⟨q, List.mem_append_left _ hq, hs⟩
      · obtain ⟨q, hq, hs⟩ := ih.2 y (by omega)
        exact ⟨q, List.mem_append_right _ hq, hs⟩

end Cert.Proof.Dequant

end
-- ==== Proof.RunScales.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Regions
public import Idealize.ShloMosaic.Lib.VecWindow
public import Idealize.ShloMosaic.Lib.Pointwise
public import Idealize.ShloMosaic.Lib.Pipeline.ReadBack
public import proofs.«01_k».proof.Proof.Tiles
public import proofs.«01_k».proof.Proof.RunCodes

@[expose] public section

set_option pp.maxSteps 2000

noncomputable section

namespace Cert.Proof.RunScales

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Proof.Regions Cert.Proof.Tiles Cert.Proof.RunCodes

variable {F : FTy → Type} [FloatOps F]

local notation "𝕄" => MT nD τ sig Unit (Elt F) ℕ (UR sig nD τ) ℕ

/-- The table buffer's contents: sixteen rows of one table entry each. -/
def table : Vec F S16x128 .bf16 := k0_pay1 (iota .tc S16x128 32 [0] iota_S16x128_d0_w32) k0_pay8 k0_pay9

set_option maxHeartbeats 4000000 in
/-- The first step fills the table buffer. -/
theorem runTable (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole)
     (K : PUnit → sProp 𝕄) :
    iprop((∃ x, owns (c : Thread nD τ) arg10 fullShare x)
        ∗ (iprop(owns (c : Thread nD τ) arg10 fullShare table) -∗ K ⟨⟩))
      ⊢ wp frame (wpE (defs₀ (F := F)) Variants.none c none) E (region1 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%d10, %f10, -, H10⟩, Hk⟩
  unfold region1
  sl_exec_parts
  sl_step
  iapply Hk
  iexists _; isplitr
  swap; · iexact H10
  ipureintro
  exact View.read_writes_full _ _ _ _ _

/-- Each row's scale, of its maxima. -/
def scaleV (a : Vec F S384x128 .f32) : FVec F S384x128 .f32 := k0_pay15 (k0_pay10 a) (k0_pay11 a) k0_pay12

/-- Each row's inverse scale, of its maxima. -/
def invV (a : Vec F S384x128 .f32) : FVec F S384x128 .f32 := k0_pay16 (k0_pay10 a) (k0_pay11 a) k0_pay12

/-- The scales' block after three of its rows are written: a row of 128 scales is a column of the maxima's tile. -/
def scales (i : grid0.Coords) (a : Vec F S384x128 .f32) (x : Vec F S12x128 .f32) : Vec F S12x128 .f32 := fun y =>
  if 3 * ((i 0).val - 1) ≤ (y 0).val ∧ (y 0).val < 3 * ((i 0).val - 1) + 3 then
    scaleV a (ix2 ⟨(128 * ((y 0).val - 3 * ((i 0).val - 1)) + (y 1).val) % 384, Nat.mod_lt _ (by omega)⟩ 0)
  else x y

theorem off1_eq : ∀ i : grid0.Coords, k0_cond2 i = 1#1 → ∀ r : Fin 3, k0_off1 i (BitVec.ofNat 32 r.val) = ![3 * ((i 0).val - 1) + r.val, 0] := by
  decide +kernel

/-- One stored row of scales at a column. -/
theorem scaleRow (v : FVec F S384x128 .f32) (t : Fin 3) (l : Fin 128) (w : FVec F S1x128 .f32)
    (hw : w = match t with | 0 => k0_pay3 v | 1 => k0_pay4 v | 2 => k0_pay5 v) :
    w (ix2 0 l) = v (ix2 ⟨128 * t.val + l.val, by omega⟩ 0) := by
  subst hw
  match t with
  | 0 => pointwise [k0_pay3]
  | 1 => pointwise [k0_pay4]
  | 2 => pointwise [k0_pay5]

/-- Reading the scales' block after the three stores. -/
theorem scales_read (i : grid0.Coords) (h : k0_cond2 i = 1#1) (v : View sig .tc .vmem S12x128 .f32) (f : v.ty.Contents (Elt F))
    (s : FVec F S384x128 .f32) (i2 i1 i0) (y : S12x128.Idx) :
    v.read (Elt F) (v.writes (Elt F) f
        [⟨Rect.unit (s := S12x128) (k0_off1 i 2#32) S1x128.size i2, k0_pay5 s⟩,
          ⟨Rect.unit (s := S12x128) (k0_off1 i 1#32) S1x128.size i1, k0_pay4 s⟩,
          ⟨Rect.unit (s := S12x128) (k0_off1 i 0#32) S1x128.size i0, k0_pay3 s⟩]) y
      = if 3 * ((i 0).val - 1) ≤ (y 0).val ∧ (y 0).val < 3 * ((i 0).val - 1) + 3 then
          s (ix2 ⟨(128 * ((y 0).val - 3 * ((i 0).val - 1)) + (y 1).val) % 384, Nat.mod_lt _ (by omega)⟩ 0)
        else v.read (Elt F) f y := by
  have e2 := off1_eq i h 2
  have e1 := off1_eq i h 1
  have e0 := off1_eq i h 0
  have hy : (y 1).val < 128 := (y 1).isLt
  obtain ⟨o, ho⟩ : ∃ o, o = 3 * ((i 0).val - 1) := ⟨_, rfl⟩
  rw [← ho] at e2 e1 e0 ⊢
  have mem (t : Fin 3) (w : FVec F S1x128 .f32) (hw : w = match t with | 0 => k0_pay3 s | 1 => k0_pay4 s | 2 => k0_pay5 s)
      (ht : (y 0).val = o + t.val) : w (ix2 0 ⟨(y 1).val, hy⟩)
        = if o ≤ (y 0).val ∧ (y 0).val < o + 3 then
          s (ix2 ⟨(128 * ((y 0).val - o) + (y 1).val) % 384, Nat.mod_lt _ (by omega)⟩ 0)
        else v.read (Elt F) f y := by
    rw [scaleRow s t _ w hw, if_pos ⟨by omega, by omega⟩]
    congr 2
    apply Fin.ext
    show 128 * t.val + (y 1).val = (128 * ((y 0).val - o) + (y 1).val) % 384
    rw [ht]
    omega
  have out (t : ℕ) (ht : ¬ (y 0).val = o + t) : (y 0).val < (![o + t, 0] : Fin 2 → ℕ) 0 ∨ (![o + t, 0] : Fin 2 → ℕ) 0 + S1x128.size 0 ≤ (y 0).val := by
    show (y 0).val < o + t ∨ o + t + 1 ≤ (y 0).val
    omega
  have co (t : ℕ) (ht : (y 0).val = o + t) : ∀ a, (y a).val = (![o + t, 0] : Fin 2 → ℕ) a + ((ix2 (0 : Fin 1) ⟨(y 1).val, hy⟩ : S1x128.Idx) a).val := by
    intro a
    match a with
    | 0 => exact ht
    | 1 => exact (Nat.zero_add _).symm
  by_cases h2 : (y 0).val = o + 2
  · exact (View.read_writes_cons_unit_of_mem v f _ _ _ y (ix2 0 ⟨(y 1).val, hy⟩) e2 (co 2 h2)).trans (mem 2 _ rfl h2)
  refine (View.read_writes_cons_unit_of_not_mem v f _ _ _ y e2 0 (out 2 h2)).trans ?_
  by_cases h1 : (y 0).val = o + 1
  · exact (View.read_writes_cons_unit_of_mem v f _ _ _ y (ix2 0 ⟨(y 1).val, hy⟩) e1 (co 1 h1)).trans (mem 1 _ rfl h1)
  refine (View.read_writes_cons_unit_of_not_mem v f _ _ _ y e1 0 (out 1 h1)).trans ?_
  by_cases h0 : (y 0).val = o + 0
  · exact (View.read_writes_cons_unit_of_mem v f _ _ _ y (ix2 0 ⟨(y 1).val, hy⟩) e0 (co 0 h0)).trans (mem 0 _ rfl h0)
  refine (View.read_writes_cons_unit_of_not_mem v f _ _ _ y e0 0 (out 0 h0)).trans ?_
  rw [if_neg (by omega)]
  rfl

set_option maxHeartbeats 4000000 in
/-- The step before a pass's codes: three rows of scales are written, and every row's inverse scale; the maxima stay. -/
theorem runScales (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (h : k0_cond2 i = 1#1)
    (x15 : Vec F S384x128 .f32) (x9 : Vec F S12x128 .f32) (K : PUnit → sProp 𝕄) :
    iprop(owns (c : Thread nD τ) arg15 fullShare x15 ∗ (∃ x, owns (c : Thread nD τ) arg16 fullShare x) ∗ owns (c : Thread nD τ) arg9 fullShare x9
        ∗ (iprop(owns (c : Thread nD τ) arg15 fullShare x15 ∗ owns (c : Thread nD τ) arg16 fullShare (invV x15) ∗ owns (c : Thread nD τ) arg9 fullShare (scales i x15 x9)) -∗ K ⟨⟩))
      ⊢ wp frame (wpE (defs₀ (F := F)) Variants.none c none) E (region2 i arg2 harg2 arg3 harg3 arg4 harg4 arg5 harg5 arg6 harg6 arg7 harg7 arg8 harg8 arg9 harg9 arg10 harg10 arg11 harg11 arg12 harg12 arg13 harg13 arg14 harg14 arg15 harg15 arg16 harg16 h) K := by
  unfold owns
  iintro ⟨⟨%f15, %hf15, H15⟩, ⟨%d16, %f16, -, H16⟩, ⟨%f9, %hf9, H9⟩, Hk⟩
  unfold region2
  sl_exec_parts
  sl_step
  iapply Hk
  isplitl [H15]
  · iexists f15; isplitr; · ipureintro; exact hf15
    iexact H15
  isplitl [H16]
  · iexists _; isplitr
    swap; · iexact H16
    ipureintro
    refine (View.read_writes_full _ _ _ _ _).trans ?_
    rw [← hf15]
    pointwise [k0_pay2]
    exact congrArg invV (View.readAt_full _ _ _)
  iexists _; isplitr
  swap; · iexact H9
  ipureintro
  funext y
  have hv : runScales.sl.r_2 c arg15 f15 = scaleV x15 := by
    rw [← hf15]; exact congrArg scaleV (View.readAt_full _ _ _)
  rw [hv, ← hf9]
  exact scales_read i h arg9.view f9 (scaleV x15) _ _ _ y

end Cert.Proof.RunScales

end
-- ==== Proof.RunPermute.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Regions
public import Idealize.ShloMosaic.Lib.VecWindow
public import Idealize.ShloMosaic.Lib.Pointwise
public import Idealize.ShloMosaic.Lib.Pipeline.ReadBack
public import proofs.«01_k».proof.Proof.Tiles
public import proofs.«01_k».proof.Proof.RunCodes

@[expose] public section

set_option pp.maxSteps 2000

noncomputable section

namespace Cert.Proof.RunPermute

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Proof.Regions Cert.Proof.Tiles Cert.Proof.RunCodes

variable {F : FTy → Type} [FloatOps F]

local notation "𝕄" => MT nD τ sig Unit (Elt F) ℕ (UR sig nD τ) ℕ

set_option maxHeartbeats 8000000 in
/-- The step that begins a pass: it leaves the rows with their columns permuted, the low-rank factor's product, and
    zero maxima. The permuted rows are any contents whose every tile is the permuted tile of the rows. -/
theorem run (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole)
    (x2 : Vec F S384x3584 .bf16) (x5 : Vec F S3584x16 .bf16) (G : Vec F S384x3584 .bf16)
    (hG : ∀ (o : Fin 2 → ℕ) (inb : ∀ a, o a + S16x128.size a ≤ S384x3584.size a), o 1 % 128 = 0 → ∀ x : S16x128.Idx,
      k0_pay77 (fun z : S16x128.Idx => x2 ((Rect.unit (s := S384x3584) o S16x128.size inb).emb z)) x = G ((Rect.unit (s := S384x3584) o S16x128.size inb).emb x)) (K : PUnit → sProp 𝕄) :
    iprop(owns (c : Thread nD τ) arg2 fullShare x2 ∗ owns (c : Thread nD τ) arg5 fullShare x5 ∗ (∃ x, owns (c : Thread nD τ) arg11 fullShare x) ∗ (∃ x, owns (c : Thread nD τ) arg12 fullShare x) ∗ (∃ x, owns (c : Thread nD τ) arg15 fullShare x)
        ∗ (iprop(owns (c : Thread nD τ) arg2 fullShare x2 ∗ owns (c : Thread nD τ) arg5 fullShare x5 ∗ owns (c : Thread nD τ) arg11 fullShare G ∗ owns (c : Thread nD τ) arg12 fullShare (k0_pay72 x2 x5) ∗ owns (c : Thread nD τ) arg15 fullShare k0_pay73) -∗ K ⟨⟩))
      ⊢ wp frame (wpE (defs₀ (F := F)) Variants.none c none) E (region5 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %hf2, H2⟩, ⟨%f5, %hf5, H5⟩, ⟨%d11, %f11, -, H11⟩, ⟨%d12, %f12, -, H12⟩, ⟨%d15, %f15, -, H15⟩, Hk⟩
  unfold region5
  sl_exec_parts
  sl_step
  iapply Hk
  have tile : ∀ (o : Fin 2 → ℕ) (inb : ∀ a, o a + S16x128.size a ≤ S384x3584.size a), o 1 % 128 = 0 → ∀ x : S16x128.Idx,
      k0_pay77 (arg2.view.readAt (Elt F) (Rect.unit (s := S384x3584) o S16x128.size inb).toLoadRect f2) x
        = G ((Rect.unit (s := S384x3584) o S16x128.size inb).emb x) := by
    subst hf2; exact hG
  isplitl [H2]
  · iexists f2; isplitr; · ipureintro; exact hf2
    iexact H2
  isplitl [H5]
  · iexists f5; isplitr; · ipureintro; exact hf5
    iexact H5
  isplitl [H11]
  · iexists _; isplitr
    swap; · iexact H11
    ipureintro
    funext y
    refine View.read_writes_apply_of_pieces _ _ _ _ (View.PiecesOf.mem ?_) y ?_
    swap; · exact View.cover_of_tiled (s := S384x3584) _ ![16, 128] (by rfl) y
    iterate 672 refine piece (tile _ _ rfl) ?_
    trivial
  isplitl [H12]
  · iexists _; isplitr
    swap; · iexact H12
    ipureintro
    refine (View.read_writes_full _ _ _ _ _).trans ?_
    rw [← hf2, ← hf5]
    exact congrArg₂ k0_pay72 (View.readAt_full _ _ _) (View.readAt_full _ _ _)
  iexists _; isplitr
  swap; · iexact H15
  ipureintro
  exact View.read_writes_full _ _ _ _ _

end Cert.Proof.RunPermute

end
-- ==== Proof.RunProduct.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Regions
public import Idealize.ShloMosaic.Lib.VecWindow
public import Idealize.ShloMosaic.Lib.Pointwise
public import Idealize.ShloMosaic.Lib.Pipeline.ReadBack
public import proofs.«01_k».proof.Proof.Tiles
public import proofs.«01_k».proof.Proof.RunCodes
public import proofs.«01_k».proof.Proof.Dequant

@[expose] public section

set_option pp.maxSteps 2000

noncomputable section

namespace Cert.Proof.RunProduct

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Proof.Regions Cert.Proof.Tiles Cert.Proof.RunCodes Cert.Proof.Dequant

variable {F : FTy → Type} [FloatOps F]

local notation "𝕄" => MT nD τ sig Unit (Elt F) ℕ (UR sig nD τ) ℕ

/-- The weights' buffer after the loop, loaded whole: the dequantised weights. -/
theorem block (𝒱 : Variants) (c : Dev nD) (bd : Option 𝒱.V) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (arg1 : BitVec 32) (v1 : BitVec 32) (k0_h4 : k0_cond4 i = 1#1) (v21 : Vec F S16x128 .bf16) (X_arg3 : BufTy.Contents (Elt F) arg3.view.ty) (X_arg4 : BufTy.Contents (Elt F) arg4.view.ty) (f : arg13.view.ty.Contents (Elt F)) (inb : ∀ a, (![0, 0] : Fin 2 → ℕ) a + S3584x512.size a ≤ S3584x512.size a) :
    arg13.view.readAt (Elt F) (Rect.unit (s := S3584x512) ![0, 0] S3584x512.size inb).toLoadRect
        (arg13.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 k0_h4 v21 X_arg3 X_arg4 k0_t1_loop.trips))
      = weights v21 (arg4.view.read (Elt F) X_arg4) (arg3.view.read (Elt F) X_arg3) := by
  have ht := trips 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 k0_h4 v21 X_arg3 X_arg4 k0_t1_loop.trips (Nat.le_refl _)
  refine (View.readAt_full _ _ _).trans ?_
  funext y
  refine View.read_writes_apply_of_pieces _ _ _ _ ht.1 y (ht.2 y ?_)
  have hy : (y 0).val < 3584 := (y 0).isLt
  have h7 : k0_t1_loop.trips = 7 := by decide +kernel
  omega

/-- The row buffer after one block of columns is stored. -/
def rows (i : grid0.Coords) (b : Vec F S384x512 .f32) (x : Vec F S384x18944 .f32) : Vec F S384x18944 .f32 := fun y =>
  if (y 1).val / 512 = (i 1).val then b (ix2 ⟨(y 0).val, (y 0).isLt⟩ ⟨(y 1).val % 512, Nat.mod_lt _ (by omega)⟩) else x y

theorem off26_eq : ∀ i : grid0.Coords, k0_off26 i = ![0, 512 * (i 1).val] := by
  decide +kernel

/-- Reading the row buffer after the store. -/
theorem rows_read (i : grid0.Coords) {sp} (v : View sig .tc sp S384x18944 .f32) (f : v.ty.Contents (Elt F)) (b : Vec F S384x512 .f32) (inb) :
    v.read (Elt F) (v.writes (Elt F) f [⟨Rect.unit (s := S384x18944) (k0_off26 i) S384x512.size inb, b⟩]) = rows i b (v.read (Elt F) f) := by
  funext y
  have h0 : (y 0).val < 384 := (y 0).isLt
  have e := off26_eq i
  unfold rows
  by_cases h : (y 1).val / 512 = (i 1).val
  · rw [if_pos h]
    refine View.read_writes_cons_unit_of_mem v f _ _ _ y (ix2 ⟨(y 0).val, (y 0).isLt⟩ ⟨(y 1).val % 512, Nat.mod_lt _ (by omega)⟩) e ?_
    intro a
    match a with
    | 0 => exact (Nat.zero_add _).symm
    | 1 => show (y 1).val = 512 * (i 1).val + (y 1).val % 512; omega
  · rw [if_neg h]
    refine (View.read_writes_cons_unit_of_not_mem v f _ _ _ y e 1 ?_).trans rfl
    show (y 1).val < 512 * (i 1).val ∨ 512 * (i 1).val + 512 ≤ (y 1).val
    omega

set_option maxHeartbeats 4000000 in
/-- The product step: it leaves the block's products, rounded, the row buffer with them, and the rows' maxima. -/
theorem run (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole) (h : k0_cond4 i = 1#1)
    (x10 : Vec F S16x128 .bf16) (x3 : Vec F S1792x512 .i8) (x4 : Vec F S56x512 .f32) (x11 : Vec F S384x3584 .bf16) (x12 : Vec F S384x16 .bf16) (x6 : Vec F S16x512 .bf16) (x14 : Vec F S384x18944 .f32) (x15 : Vec F S384x128 .f32) (K : PUnit → sProp 𝕄) :
    iprop(owns (c : Thread nD τ) arg10 fullShare x10 ∗ owns (c : Thread nD τ) arg3 fullShare x3 ∗ owns (c : Thread nD τ) arg4 fullShare x4 ∗ (∃ x, owns (c : Thread nD τ) arg13 fullShare x) ∗ owns (c : Thread nD τ) arg11 fullShare x11 ∗ owns (c : Thread nD τ) arg12 fullShare x12 ∗ owns (c : Thread nD τ) arg6 fullShare x6 ∗ (∃ x, owns (c : Thread nD τ) arg7 fullShare x) ∗ owns (c : Thread nD τ) arg14 fullShare x14 ∗ owns (c : Thread nD τ) arg15 fullShare x15
        ∗ (iprop(owns (c : Thread nD τ) arg10 fullShare x10 ∗ owns (c : Thread nD τ) arg3 fullShare x3 ∗ owns (c : Thread nD τ) arg4 fullShare x4 ∗ (∃ x, owns (c : Thread nD τ) arg13 fullShare x) ∗ owns (c : Thread nD τ) arg11 fullShare x11 ∗ owns (c : Thread nD τ) arg12 fullShare x12 ∗ owns (c : Thread nD τ) arg6 fullShare x6 ∗ owns (c : Thread nD τ) arg7 fullShare (k0_pay2102 x11 (weights x10 x4 x3) x12 x6) ∗ owns (c : Thread nD τ) arg14 fullShare (rows i (k0_pay2103 x11 (weights x10 x4 x3) x12 x6) x14) ∗ owns (c : Thread nD τ) arg15 fullShare (k0_pay7 (k0_pay2104 x11 (weights x10 x4 x3) x12 x6 x15))) -∗ K ⟨⟩))
      ⊢ wp frame (wpE (defs₀ (F := F)) Variants.none c none) E (region4 i arg2 harg2 arg3 harg3 arg4 harg4 arg5 harg5 arg6 harg6 arg7 harg7 arg8 harg8 arg9 harg9 arg10 harg10 arg11 harg11 arg12 harg12 arg13 harg13 arg14 harg14 arg15 harg15 arg16 harg16 h) K := by
  unfold owns
  iintro ⟨⟨%f10, %hf10, H10⟩, ⟨%f3, %hf3, H3⟩, ⟨%f4, %hf4, H4⟩, ⟨%d13, %f13, -, H13⟩, ⟨%f11, %hf11, H11⟩, ⟨%f12, %hf12, H12⟩, ⟨%f6, %hf6, H6⟩, ⟨%d7, %f7, -, H7⟩, ⟨%f14, %hf14, H14⟩, ⟨%f15, %hf15, H15⟩, Hk⟩
  unfold region4 product
  sl_exec_parts
  sl_step
  subst hf10 hf3 hf4 hf11 hf12 hf6 hf14 hf15
  have e10 : arg10.view.readAt (Elt F) (Rect.unit (s := S16x128) ![0, 0] S16x128.size inb_S16x128_S16x128_0_0).toLoadRect f10 = arg10.view.read (Elt F) f10 := View.readAt_full _ _ _
  have eW := (block (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (run.sl.v0 i) h (arg10.view.readAt (Elt F) (Rect.unit (s := S16x128) ![0, 0] S16x128.size inb_S16x128_S16x128_0_0).toLoadRect f10) f3 f4 f13 inb_S3584x512_S3584x512_0_0).trans
    (congrArg (fun v => weights v (arg4.view.read (Elt F) f4) (arg3.view.read (Elt F) f3)) e10)
  have e11 : arg11.view.readAt (Elt F) (Rect.unit (s := S384x3584) ![0, 0] S384x3584.size inb_S384x3584_S384x3584_0_0).toLoadRect f11 = arg11.view.read (Elt F) f11 := View.readAt_full _ _ _
  have e12 : arg12.view.readAt (Elt F) (Rect.unit (s := S384x16) ![0, 0] S384x16.size inb_S384x16_S384x16_0_0).toLoadRect f12 = arg12.view.read (Elt F) f12 := View.readAt_full _ _ _
  have e6 : arg6.view.readAt (Elt F) (Rect.unit (s := S16x512) ![0, 0] S16x512.size inb_S16x512_S16x512_0_0).toLoadRect f6 = arg6.view.read (Elt F) f6 := View.readAt_full _ _ _
  have e15 : arg15.view.readAt (Elt F) (Rect.unit (s := S384x128) ![0, 0] S384x128.size inb_S384x128_S384x128_0_0).toLoadRect f15 = arg15.view.read (Elt F) f15 := View.readAt_full _ _ _
  iapply Hk
  isplitl [H10]
  · iexists f10; isplitr; · ipureintro; rfl
    iexact H10
  isplitl [H3]
  · iexists f3; isplitr; · ipureintro; rfl
    iexact H3
  isplitl [H4]
  · iexists f4; isplitr; · ipureintro; rfl
    iexact H4
  isplitl [H13]
  · iexists _; iexists _; isplitr
    swap; · iexact H13
    ipureintro; rfl
  isplitl [H11]
  · iexists f11; isplitr; · ipureintro; rfl
    iexact H11
  isplitl [H12]
  · iexists f12; isplitr; · ipureintro; rfl
    iexact H12
  isplitl [H6]
  · iexists f6; isplitr; · ipureintro; rfl
    iexact H6
  isplitl [H7]
  · iexists _; isplitr
    swap; · iexact H7
    ipureintro
    refine (View.read_writes_full _ _ _ _ _).trans ?_
    exact congr (congr (congr (congrArg k0_pay2102 e11) eW) e12) e6
  isplitl [H14]
  · iexists _; isplitr
    swap; · iexact H14
    ipureintro
    refine (rows_read i _ _ _ _).trans ?_
    refine congrArg (fun b => rows i b _) ?_
    exact congr (congr (congr (congrArg k0_pay2103 e11) eW) e12) e6
  iexists _; isplitr
  swap; · iexact H15
  ipureintro
  refine (View.read_writes_full _ _ _ _ _).trans ?_
  refine congrArg k0_pay7 ?_
  exact congr (congr (congr (congr (congrArg k0_pay2104 e11) eW) e12) e6) e15

end Cert.Proof.RunProduct

end
-- ==== Proof.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Regions
public import Idealize.ShloMosaic.Lib.VecWindow
public import Idealize.ShloMosaic.Lib.Pointwise
public import Idealize.ShloMosaic.Lib.Pipeline.ReadBack
public import proofs.«01_k».proof.Proof.Tiles
public import proofs.«01_k».proof.Proof.RunCodes
public import proofs.«01_k».proof.Proof.Dequant
public import proofs.«01_k».proof.Proof.RunScales
public import proofs.«01_k».proof.Proof.RunPermute
public import proofs.«01_k».proof.Proof.RunProduct

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Proof.Regions Cert.Proof.Tiles Cert.Proof.RunCodes Cert.Proof.Dequant Cert.Proof.RunScales Cert.Proof.RunProduct

local notation "𝕄" => MT nD τ sig Unit (Elt Ideal) ℕ (UR sig nD τ) ℕ

/-- Rows with their columns permuted. -/
def permuted (x : Vec Ideal S384x3584 .bf16) : Vec Ideal S384x3584 .bf16 := fun y =>
  x (ix2 (y 0) ⟨perm (y 1).val, by
    have h : (y 1).val < 3584 := (y 1).isLt
    unfold perm
    omega⟩)

/-- Every tile of the permuted rows is the permuted tile. -/
theorem permuted_tile (x : Vec Ideal S384x3584 .bf16) (o : Fin 2 → ℕ) (inb : ∀ a, o a + S16x128.size a ≤ S384x3584.size a) (ho : o 1 % 128 = 0) (z : S16x128.Idx) :
    k0_pay77 (fun z : S16x128.Idx => x ((Rect.unit (s := S384x3584) o S16x128.size inb).emb z)) z
      = permuted x ((Rect.unit (s := S384x3584) o S16x128.size inb).emb z) := by
  have ez : z = ix2 (z 0) (z 1) := by
    funext a
    match a with
    | 0 => rfl
    | 1 => rfl
  rw [ez]
  refine (permTile_apply _ _ _).trans ?_
  unfold permuted
  refine congrArg x ?_
  funext a
  have hz : (z 1).val < 128 := (z 1).isLt
  match a with
  | 0 => rfl
  | 1 => exact Fin.ext (show o 1 + 1 * perm (z 1).val = perm (o 1 + 1 * (z 1).val) by unfold perm; omega)

/-- The first step's condition, carried out: the table buffer. -/
theorem stage1 (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole)
    (x10 : Vec Ideal S16x128 .bf16) (K : PUnit → sProp 𝕄) :
    iprop(owns (c : Thread nD τ) arg10 fullShare x10
        ∗ (iprop(owns (c : Thread nD τ) arg10 fullShare (if first i then table else x10)) -∗ K ⟨⟩))
      ⊢ wp frame (wpE (defs₀ (F := Ideal)) Variants.none c none) E (if h : first i then region1 i arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩) K := by
  by_cases h : first i
  · rw [dif_pos h]
    simp only [if_pos h]
    iintro ⟨H10, Hk⟩
    iapply (RunScales.runTable c E i arg2 harg2 arg3 harg3 arg4 harg4 arg5 harg5 arg6 harg6 arg7 harg7 arg8 harg8 arg9 harg9 arg10 harg10 arg11 harg11 arg12 harg12 arg13 harg13 arg14 harg14 arg15 harg15 arg16 harg16 K)
    isplitl [H10]
    · iexists _; iexact H10
    iexact Hk
  · rw [dif_neg h]
    simp only [if_neg h]
    iintro ⟨H10, Hk⟩
    sl_step
    iapply Hk
    iexact H10

/-- The scales' step, under its condition. -/
theorem stage2 (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole)
    (x15 x16 : Vec Ideal S384x128 .f32) (x9 : Vec Ideal S12x128 .f32) (K : PUnit → sProp 𝕄) :
    iprop(owns (c : Thread nD τ) arg15 fullShare x15 ∗ owns (c : Thread nD τ) arg16 fullShare x16 ∗ owns (c : Thread nD τ) arg9 fullShare x9
        ∗ (iprop(owns (c : Thread nD τ) arg15 fullShare x15 ∗ owns (c : Thread nD τ) arg16 fullShare (if k0_cond2 i = 1#1 then invV x15 else x16) ∗ owns (c : Thread nD τ) arg9 fullShare (if k0_cond2 i = 1#1 then scales i x15 x9 else x9)) -∗ K ⟨⟩))
      ⊢ wp frame (wpE (defs₀ (F := Ideal)) Variants.none c none) E (if h : k0_cond2 i = 1#1 then region2 i arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩) K := by
  by_cases h : k0_cond2 i = 1#1
  · rw [dif_pos h]
    simp only [if_pos h]
    iintro ⟨H15, H16, H9, Hk⟩
    iapply (RunScales.runScales c E i arg2 harg2 arg3 harg3 arg4 harg4 arg5 harg5 arg6 harg6 arg7 harg7 arg8 harg8 arg9 harg9 arg10 harg10 arg11 harg11 arg12 harg12 arg13 harg13 arg14 harg14 arg15 harg15 arg16 harg16 h x15 x9 K)
    isplitl [H15]; · iexact H15
    isplitl [H16]; · iexists _; iexact H16
    isplitl [H9]; · iexact H9
    iexact Hk
  · rw [dif_neg h]
    simp only [if_neg h]
    iintro ⟨H15, H16, H9, Hk⟩
    sl_step
    iapply Hk
    isplitl [H15]; · iexact H15
    isplitl [H16]; · iexact H16
    iexact H9

/-- The codes' step, under its condition. -/
theorem stage3 (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole)
    (x14 : Vec Ideal S384x18944 .f32) (x16 : Vec Ideal S384x128 .f32) (x8 : Vec Ideal S384x512 .fp8e4m3) (K : PUnit → sProp 𝕄) :
    iprop(owns (c : Thread nD τ) arg14 fullShare x14 ∗ owns (c : Thread nD τ) arg16 fullShare x16 ∗ owns (c : Thread nD τ) arg8 fullShare x8
        ∗ (iprop(owns (c : Thread nD τ) arg14 fullShare x14 ∗ owns (c : Thread nD τ) arg16 fullShare x16 ∗ owns (c : Thread nD τ) arg8 fullShare (if k0_cond3 i = 1#1 then codes i x14 x16 else x8)) -∗ K ⟨⟩))
      ⊢ wp frame (wpE (defs₀ (F := Ideal)) Variants.none c none) E (if h : k0_cond3 i = 1#1 then region3 i arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩) K := by
  by_cases h : k0_cond3 i = 1#1
  · rw [dif_pos h]
    simp only [if_pos h]
    iintro ⟨H14, H16, H8, Hk⟩
    iapply (RunCodes.run c E i arg2 harg2 arg3 harg3 arg4 harg4 arg5 harg5 arg6 harg6 arg7 harg7 arg8 harg8 arg9 harg9 arg10 harg10 arg11 harg11 arg12 harg12 arg13 harg13 arg14 harg14 arg15 harg15 arg16 harg16 h x14 x16 K)
    isplitl [H14]; · iexact H14
    isplitl [H16]; · iexact H16
    isplitl [H8]; · iexists _; iexact H8
    iexact Hk
  · rw [dif_neg h]
    simp only [if_neg h]
    iintro ⟨H14, H16, H8, Hk⟩
    sl_step
    iapply Hk
    isplitl [H14]; · iexact H14
    isplitl [H16]; · iexact H16
    iexact H8

/-- The permutation's step, under its condition. -/
theorem stage5 (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole)
    (x2 : Vec Ideal S384x3584 .bf16) (x5 : Vec Ideal S3584x16 .bf16) (x11 : Vec Ideal S384x3584 .bf16) (x12 : Vec Ideal S384x16 .bf16) (x15 : Vec Ideal S384x128 .f32) (K : PUnit → sProp 𝕄) :
    iprop(owns (c : Thread nD τ) arg2 fullShare x2 ∗ owns (c : Thread nD τ) arg5 fullShare x5 ∗ owns (c : Thread nD τ) arg11 fullShare x11 ∗ owns (c : Thread nD τ) arg12 fullShare x12 ∗ owns (c : Thread nD τ) arg15 fullShare x15
        ∗ (iprop(owns (c : Thread nD τ) arg2 fullShare x2 ∗ owns (c : Thread nD τ) arg5 fullShare x5 ∗ owns (c : Thread nD τ) arg11 fullShare (if firstOfPass i then permuted x2 else x11) ∗ owns (c : Thread nD τ) arg12 fullShare (if firstOfPass i then k0_pay72 x2 x5 else x12) ∗ owns (c : Thread nD τ) arg15 fullShare (if firstOfPass i then k0_pay73 (F := Ideal) else x15)) -∗ K ⟨⟩))
      ⊢ wp frame (wpE (defs₀ (F := Ideal)) Variants.none c none) E (if h : firstOfPass i then region5 i arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩) K := by
  by_cases h : firstOfPass i
  · rw [dif_pos h]
    simp only [if_pos h]
    iintro ⟨H2, H5, H11, H12, H15, Hk⟩
    iapply (RunPermute.run c E i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 (permuted x2) (permuted_tile x2) K)
    isplitl [H2]; · iexact H2
    isplitl [H5]; · iexact H5
    isplitl [H11]; · iexists _; iexact H11
    isplitl [H12]; · iexists _; iexact H12
    isplitl [H15]; · iexists _; iexact H15
    iexact Hk
  · rw [dif_neg h]
    simp only [if_neg h]
    iintro ⟨H2, H5, H11, H12, H15, Hk⟩
    sl_step
    iapply Hk
    isplitl [H2]; · iexact H2
    isplitl [H5]; · iexact H5
    isplitl [H11]; · iexact H11
    isplitl [H12]; · iexact H12
    iexact H15

/-- The permuted rows that the product step uses. -/
def rows11 (i : grid0.Coords) (x2 x11 : Vec Ideal S384x3584 .bf16) : Vec Ideal S384x3584 .bf16 := if firstOfPass i then permuted x2 else x11

/-- The low-rank factor's product that it uses. -/
def low12 (i : grid0.Coords) (x2 : Vec Ideal S384x3584 .bf16) (x5 : Vec Ideal S3584x16 .bf16) (x12 : Vec Ideal S384x16 .bf16) : Vec Ideal S384x16 .bf16 :=
  if firstOfPass i then k0_pay72 x2 x5 else x12

/-- The maxima that it starts from. -/
def max15 (i : grid0.Coords) (x15 : Vec Ideal S384x128 .f32) : Vec Ideal S384x128 .f32 := if firstOfPass i then k0_pay73 (F := Ideal) else x15

/-- The product's step with the permutation's before it, under its condition. -/
theorem stage4 (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole)
    (x2 : Vec Ideal S384x3584 .bf16) (x5 : Vec Ideal S3584x16 .bf16) (x10 : Vec Ideal S16x128 .bf16) (x3 : Vec Ideal S1792x512 .i8) (x4 : Vec Ideal S56x512 .f32) (x11 : Vec Ideal S384x3584 .bf16) (x12 : Vec Ideal S384x16 .bf16) (x6 : Vec Ideal S16x512 .bf16) (x7 : Vec Ideal S384x512 .bf16) (x13 : Vec Ideal S3584x512 .bf16) (x14 : Vec Ideal S384x18944 .f32) (x15 : Vec Ideal S384x128 .f32) (K : PUnit → sProp 𝕄) :
    iprop(owns (c : Thread nD τ) arg2 fullShare x2 ∗ owns (c : Thread nD τ) arg5 fullShare x5 ∗ owns (c : Thread nD τ) arg10 fullShare x10 ∗ owns (c : Thread nD τ) arg3 fullShare x3 ∗ owns (c : Thread nD τ) arg4 fullShare x4 ∗ owns (c : Thread nD τ) arg13 fullShare x13 ∗ owns (c : Thread nD τ) arg11 fullShare x11 ∗ owns (c : Thread nD τ) arg12 fullShare x12 ∗ owns (c : Thread nD τ) arg6 fullShare x6 ∗ owns (c : Thread nD τ) arg7 fullShare x7 ∗ owns (c : Thread nD τ) arg14 fullShare x14 ∗ owns (c : Thread nD τ) arg15 fullShare x15
        ∗ (iprop(owns (c : Thread nD τ) arg2 fullShare x2 ∗ owns (c : Thread nD τ) arg5 fullShare x5 ∗ owns (c : Thread nD τ) arg10 fullShare x10 ∗ owns (c : Thread nD τ) arg3 fullShare x3 ∗ owns (c : Thread nD τ) arg4 fullShare x4 ∗ (∃ x, owns (c : Thread nD τ) arg13 fullShare x) ∗ owns (c : Thread nD τ) arg11 fullShare (if k0_cond4 i = 1#1 then (rows11 i x2 x11) else x11) ∗ owns (c : Thread nD τ) arg12 fullShare (if k0_cond4 i = 1#1 then (low12 i x2 x5 x12) else x12) ∗ owns (c : Thread nD τ) arg6 fullShare x6 ∗ owns (c : Thread nD τ) arg7 fullShare (if k0_cond4 i = 1#1 then (k0_pay2102 (rows11 i x2 x11) (weights x10 x4 x3) (low12 i x2 x5 x12) x6) else x7) ∗ owns (c : Thread nD τ) arg14 fullShare (if k0_cond4 i = 1#1 then (rows i (k0_pay2103 (rows11 i x2 x11) (weights x10 x4 x3) (low12 i x2 x5 x12) x6) x14) else x14) ∗ owns (c : Thread nD τ) arg15 fullShare (if k0_cond4 i = 1#1 then (k0_pay7 (k0_pay2104 (rows11 i x2 x11) (weights x10 x4 x3) (low12 i x2 x5 x12) x6 (max15 i x15))) else x15)) -∗ K ⟨⟩))
      ⊢ wp frame (wpE (defs₀ (F := Ideal)) Variants.none c none) E (if h : k0_cond4 i = 1#1 then region54 i arg2 harg2 arg3 harg3 arg4 harg4 arg5 harg5 arg6 harg6 arg7 harg7 arg8 harg8 arg9 harg9 arg10 harg10 arg11 harg11 arg12 harg12 arg13 harg13 arg14 harg14 arg15 harg15 arg16 harg16 h else pure ⟨⟩) K := by
  by_cases h : k0_cond4 i = 1#1
  · rw [dif_pos h]
    simp only [if_pos h]
    unfold region54
    simp only [wp_bind]
    iintro ⟨H2, H5, H10, H3, H4, H13, H11, H12, H6, H7, H14, H15, Hk⟩
    iapply (stage5 c E i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 x11 x12 x15 _)
    isplitl [H2]; · iexact H2
    isplitl [H5]; · iexact H5
    isplitl [H11]; · iexact H11
    isplitl [H12]; · iexact H12
    isplitl [H15]; · iexact H15
    iintro ⟨H2, H5, H11, H12, H15⟩
    iapply (RunProduct.run c E i arg2 harg2 arg3 harg3 arg4 harg4 arg5 harg5 arg6 harg6 arg7 harg7 arg8 harg8 arg9 harg9 arg10 harg10 arg11 harg11 arg12 harg12 arg13 harg13 arg14 harg14 arg15 harg15 arg16 harg16 h x10 x3 x4 (rows11 i x2 x11) (low12 i x2 x5 x12) x6 x14 (max15 i x15) _)
    isplitl [H10]; · iexact H10
    isplitl [H3]; · iexact H3
    isplitl [H4]; · iexact H4
    isplitl [H13]; · iexists _; iexact H13
    isplitl [H11]; · iexact H11
    isplitl [H12]; · iexact H12
    isplitl [H6]; · iexact H6
    isplitl [H7]; · iexists _; iexact H7
    isplitl [H14]; · iexact H14
    isplitl [H15]; · iexact H15
    iintro ⟨H10, H3, H4, H13, H11, H12, H6, H7, H14, H15⟩
    iapply Hk
    isplitl [H2]; · iexact H2
    isplitl [H5]; · iexact H5
    isplitl [H10]; · iexact H10
    isplitl [H3]; · iexact H3
    isplitl [H4]; · iexact H4
    isplitl [H13]; · iexact H13
    isplitl [H11]; · iexact H11
    isplitl [H12]; · iexact H12
    isplitl [H6]; · iexact H6
    isplitl [H7]; · iexact H7
    isplitl [H14]; · iexact H14
    iexact H15
  · rw [dif_neg h]
    simp only [if_neg h]
    iintro ⟨H2, H5, H10, H3, H4, H13, H11, H12, H6, H7, H14, H15, Hk⟩
    sl_step
    iapply Hk
    isplitl [H2]; · iexact H2
    isplitl [H5]; · iexact H5
    isplitl [H10]; · iexact H10
    isplitl [H3]; · iexact H3
    isplitl [H4]; · iexact H4
    isplitl [H13]; · iexists _; iexact H13
    isplitl [H11]; · iexact H11
    isplitl [H12]; · iexact H12
    isplitl [H6]; · iexact H6
    isplitl [H7]; · iexact H7
    isplitl [H14]; · iexact H14
    iexact H15

set_option maxHeartbeats 4000000 in
/-- The body at a grid point: what each block and buffer holds after it, of what they held before. -/
theorem run (c : Dev nD) (E : Set ℕ) (i : grid0.Coords) (arg2 : Memref sig .tc .vmem S384x3584 .bf16) (harg2 : arg2.IsWhole) (arg3 : Memref sig .tc .vmem S1792x512 .i8) (harg3 : arg3.IsWhole) (arg4 : Memref sig .tc .vmem S56x512 .f32) (harg4 : arg4.IsWhole) (arg5 : Memref sig .tc .vmem S3584x16 .bf16) (harg5 : arg5.IsWhole) (arg6 : Memref sig .tc .vmem S16x512 .bf16) (harg6 : arg6.IsWhole) (arg7 : Memref sig .tc .vmem S384x512 .bf16) (harg7 : arg7.IsWhole) (arg8 : Memref sig .tc .vmem S384x512 .fp8e4m3) (harg8 : arg8.IsWhole) (arg9 : Memref sig .tc .vmem S12x128 .f32) (harg9 : arg9.IsWhole) (arg10 : Memref sig .tc .vmem S16x128 .bf16) (harg10 : arg10.IsWhole) (arg11 : Memref sig .tc .vmem S384x3584 .bf16) (harg11 : arg11.IsWhole) (arg12 : Memref sig .tc .vmem S384x16 .bf16) (harg12 : arg12.IsWhole) (arg13 : Memref sig .tc .vmem S3584x512 .bf16) (harg13 : arg13.IsWhole) (arg14 : Memref sig .tc .vmem S384x18944 .f32) (harg14 : arg14.IsWhole) (arg15 : Memref sig .tc .vmem S384x128 .f32) (harg15 : arg15.IsWhole) (arg16 : Memref sig .tc .vmem S384x128 .f32) (harg16 : arg16.IsWhole)
    (x2 : Vec Ideal S384x3584 .bf16) (x5 : Vec Ideal S3584x16 .bf16) (x10 : Vec Ideal S16x128 .bf16) (x3 : Vec Ideal S1792x512 .i8) (x4 : Vec Ideal S56x512 .f32) (x11 : Vec Ideal S384x3584 .bf16) (x12 : Vec Ideal S384x16 .bf16) (x6 : Vec Ideal S16x512 .bf16) (x7 : Vec Ideal S384x512 .bf16) (x13 : Vec Ideal S3584x512 .bf16) (x14 : Vec Ideal S384x18944 .f32) (x15 : Vec Ideal S384x128 .f32) (x8 : Vec Ideal S384x512 .fp8e4m3) (x9 : Vec Ideal S12x128 .f32) (x16 : Vec Ideal S384x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (if k0_cond4 i = 1#1 then (k0_pay2102 (rows11 i x2 x11) (weights (if first i then table else x10) x4 x3) (low12 i x2 x5 x12) x6) else x7) ∗ owns (c : Thread nD τ) arg8 fullShare (if k0_cond3 i = 1#1 then codes i x14 (if k0_cond2 i = 1#1 then invV x15 else x16) else x8) ∗ owns (c : Thread nD τ) arg9 fullShare (if k0_cond2 i = 1#1 then scales i x15 x9 else x9) ∗ owns (c : Thread nD τ) arg10 fullShare (if first i then table else x10) ∗ owns (c : Thread nD τ) arg11 fullShare (if k0_cond4 i = 1#1 then (rows11 i x2 x11) else x11) ∗ owns (c : Thread nD τ) arg12 fullShare (if k0_cond4 i = 1#1 then (low12 i x2 x5 x12) else x12) ∗ (∃ x, owns (c : Thread nD τ) arg13 fullShare x) ∗ owns (c : Thread nD τ) arg14 fullShare (if k0_cond4 i = 1#1 then (rows i (k0_pay2103 (rows11 i x2 x11) (weights (if first i then table else x10) x4 x3) (low12 i x2 x5 x12) x6) x14) else x14) ∗ owns (c : Thread nD τ) arg15 fullShare (if k0_cond4 i = 1#1 then (k0_pay7 (k0_pay2104 (rows11 i x2 x11) (weights (if first i then table else x10) x4 x3) (low12 i x2 x5 x12) x6 (max15 i x15))) else x15) ∗ owns (c : Thread nD τ) arg16 fullShare (if k0_cond2 i = 1#1 then invV x15 else x16)) -∗ K ⟨⟩))
      ⊢ wp frame (wpE (defs₀ (F := Ideal)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq]
  simp only [wp_bind]
  iintro ⟨H2, H3, H4, H5, H6, H7, H8, H9, H10, H11, H12, H13, H14, H15, H16, Hk⟩
  iapply (stage1 c E i arg2 harg2 arg3 harg3 arg4 harg4 arg5 harg5 arg6 harg6 arg7 harg7 arg8 harg8 arg9 harg9 arg10 harg10 arg11 harg11 arg12 harg12 arg13 harg13 arg14 harg14 arg15 harg15 arg16 harg16 x10 _)
  isplitl [H10]; · iexact H10
  iintro H10
  iapply (stage2 c E i arg2 harg2 arg3 harg3 arg4 harg4 arg5 harg5 arg6 harg6 arg7 harg7 arg8 harg8 arg9 harg9 arg10 harg10 arg11 harg11 arg12 harg12 arg13 harg13 arg14 harg14 arg15 harg15 arg16 harg16 x15 x16 x9 _)
  isplitl [H15]; · iexact H15
  isplitl [H16]; · iexact H16
  isplitl [H9]; · iexact H9
  iintro ⟨H15, H16, H9⟩
  iapply (stage3 c E i arg2 harg2 arg3 harg3 arg4 harg4 arg5 harg5 arg6 harg6 arg7 harg7 arg8 harg8 arg9 harg9 arg10 harg10 arg11 harg11 arg12 harg12 arg13 harg13 arg14 harg14 arg15 harg15 arg16 harg16 x14 (if k0_cond2 i = 1#1 then invV x15 else x16) x8 _)
  isplitl [H14]; · iexact H14
  isplitl [H16]; · iexact H16
  isplitl [H8]; · iexact H8
  iintro ⟨H14, H16, H8⟩
  iapply (stage4 c E i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x5 (if first i then table else x10) x3 x4 x11 x12 x6 x7 x13 x14 x15 _)
  isplitl [H2]; · iexact H2
  isplitl [H5]; · iexact H5
  isplitl [H10]; · iexact H10
  isplitl [H3]; · iexact H3
  isplitl [H4]; · iexact H4
  isplitl [H13]; · iexact H13
  isplitl [H11]; · iexact H11
  isplitl [H12]; · iexact H12
  isplitl [H6]; · iexact H6
  isplitl [H7]; · iexact H7
  isplitl [H14]; · iexact H14
  isplitl [H15]; · iexact H15
  iintro ⟨H2, H5, H10, H3, H4, H13, H11, H12, H6, H7, H14, H15⟩
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Proof.Body

end
-- ==== Proof.State.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Regions
public import Idealize.ShloMosaic.Lib.VecWindow
public import Idealize.ShloMosaic.Lib.Pointwise
public import Idealize.ShloMosaic.Lib.Pipeline.ReadBack
public import proofs.«01_k».proof.Proof.Tiles
public import proofs.«01_k».proof.Proof.RunCodes
public import proofs.«01_k».proof.Proof.Dequant
public import proofs.«01_k».proof.Proof.RunScales
public import proofs.«01_k».proof.Proof.RunPermute
public import proofs.«01_k».proof.Proof.RunProduct
public import proofs.«01_k».proof.Proof.Body

@[expose] public section

noncomputable section

namespace Cert.Proof.State

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Proof.Regions Cert.Proof.Tiles Cert.Proof.RunCodes Cert.Proof.Dequant Cert.Proof.RunScales Cert.Proof.RunProduct Cert.Proof.Body

local notation "𝕄" => MT nD τ sig Unit (Elt Ideal) ℕ (UR sig nD τ) ℕ

/-! ## The conditions of the grid point -/

theorem first_iff : ∀ i : grid0.Coords, first i ↔ (i 0).val = 0 ∧ (i 1).val = 0 := by decide +kernel

/-- The first step of a pass, by coordinates. -/
theorem firstOfPass_iff : ∀ i : grid0.Coords, firstOfPass i ↔ (i 1).val = 0 := by decide +kernel

/-- When the scales are taken. -/
theorem cond2_iff : ∀ i : grid0.Coords, k0_cond2 i = 1#1 ↔ 0 < (i 0).val ∧ (i 1).val = 0 := by decide +kernel

/-- When codes are written. -/
theorem cond3_iff : ∀ i : grid0.Coords, k0_cond3 i = 1#1 ↔ 0 < (i 0).val := by decide +kernel

/-- When a product is computed. -/
theorem cond4_iff : ∀ i : grid0.Coords, k0_cond4 i = 1#1 ↔ (i 0).val < 4 := by decide +kernel

/-! ## The blocks that the kernel computes -/

/-- The argument arrays by blocks: the row blocks of the activations, the column blocks of the packed weights, of their
    absolute maxima and of the second low-rank factor, and the first low-rank factor. -/
structure Args where
  X : ℕ → Vec Ideal S384x3584 .bf16
  W : ℕ → Vec Ideal S1792x512 .i8
  A : ℕ → Vec Ideal S56x512 .f32
  LA : Vec Ideal S3584x16 .bf16
  LB : ℕ → Vec Ideal S16x512 .bf16

namespace Args

variable (o : Args)

/-- A column block of the weights, dequantised. -/
def wts (j : ℕ) : Vec Ideal S3584x512 .bf16 := weights table (o.A j) (o.W j)

/-- A row block's product with the first low-rank factor. -/
def low (p : ℕ) : Vec Ideal S384x16 .bf16 := k0_pay72 (o.X p) o.LA

/-- A row block, its columns permuted. -/
def xp (p : ℕ) : Vec Ideal S384x3584 .bf16 := permuted (o.X p)

/-- A block of the product, as it is written to the result. -/
def y (p j : ℕ) : Vec Ideal S384x512 .bf16 := k0_pay2102 (o.xp p) (o.wts j) (o.low p) (o.LB j)

/-- A block of the product, as it is kept. -/
def row (p j : ℕ) : Vec Ideal S384x512 .f32 := k0_pay2103 (o.xp p) (o.wts j) (o.low p) (o.LB j)

/-- The maxima after one more block. -/
def more (p j : ℕ) (x : Vec Ideal S384x128 .f32) : Vec Ideal S384x128 .f32 :=
  k0_pay7 (k0_pay2104 (o.xp p) (o.wts j) (o.low p) (o.LB j) x)

/-- The maxima after the blocks up to `j`. -/
def mx (p : ℕ) : ℕ → Vec Ideal S384x128 .f32
  | 0 => o.more p 0 (k0_pay73 (F := Ideal))
  | j + 1 => o.more p (j + 1) (mx p j)

/-- The maxima of a row block's whole rows. -/
def full (p : ℕ) : Vec Ideal S384x128 .f32 := o.mx p 36

/-- A block of the codes. -/
def code (p j : ℕ) : Vec Ideal S384x512 .fp8e4m3 := fun z =>
  RunCodes.code (o.row p j (ix2 (z 0) ⟨(z 1).val, (z 1).isLt⟩)) (invV (o.full p) (ix2 (z 0) ⟨(z 1).val % 128, Nat.mod_lt _ (by omega)⟩))

/-- A scale of the scales' block. -/
def scale (y : S12x128.Idx) : Ideal .f32 :=
  scaleV (o.full ((y 0).val / 3)) (ix2 ⟨(128 * ((y 0).val % 3) + (y 1).val) % 384, Nat.mod_lt _ (by omega)⟩ 0)

end Args

/-- The column of an index of the row buffer within its block. -/
abbrev inBlock (y : S384x18944.Idx) : S384x512.Idx := ix2 ⟨(y 0).val, (y 0).isLt⟩ ⟨(y 1).val % 512, Nat.mod_lt _ (by omega)⟩

/-! ## What the buffers hold before and after a grid point -/

/-- Before the point of pass `p` and column block `j`. -/
structure Pre (o : Args) (p j : ℕ) (x10 : Vec Ideal S16x128 .bf16) (x11 : Vec Ideal S384x3584 .bf16) (x12 : Vec Ideal S384x16 .bf16)
    (x14 : Vec Ideal S384x18944 .f32) (x15 x16 : Vec Ideal S384x128 .f32) : Prop where
  t10 : 0 < p ∨ 0 < j → x10 = table
  t11 : p < 4 → 0 < j → x11 = o.xp p
  t12 : p < 4 → 0 < j → x12 = o.low p
  new : p < 4 → ∀ y, (y 1).val / 512 < j → x14 y = o.row p ((y 1).val / 512) (inBlock y)
  old : 0 < p → ∀ y, (p < 4 → j ≤ (y 1).val / 512) → x14 y = o.row (p - 1) ((y 1).val / 512) (inBlock y)
  t15 : p < 4 → 0 < j → x15 = o.mx p (j - 1)
  s15 : 0 < p → j = 0 → x15 = o.full (p - 1)
  t16 : 0 < p → 0 < j → x16 = invV (o.full (p - 1))

/-- After it. -/
structure Post (o : Args) (p j : ℕ) (x10 : Vec Ideal S16x128 .bf16) (x11 : Vec Ideal S384x3584 .bf16) (x12 : Vec Ideal S384x16 .bf16)
    (x14 : Vec Ideal S384x18944 .f32) (x15 x16 : Vec Ideal S384x128 .f32) : Prop where
  t10 : x10 = table
  t11 : p < 4 → x11 = o.xp p
  t12 : p < 4 → x12 = o.low p
  new : p < 4 → ∀ y, (y 1).val / 512 ≤ j → x14 y = o.row p ((y 1).val / 512) (inBlock y)
  old : 0 < p → ∀ y, (p < 4 → j < (y 1).val / 512) → x14 y = o.row (p - 1) ((y 1).val / 512) (inBlock y)
  t15 : p < 4 → x15 = o.mx p j
  t16 : 0 < p → x16 = invV (o.full (p - 1))

/-- After a point is before the next. -/
theorem Post.next {o : Args} {n : ℕ} {x10 x11 x12 x14 x15 x16} (hn : n + 1 < 185) (h : Post o (n / 37) (n % 37) x10 x11 x12 x14 x15 x16) :
    Pre o ((n + 1) / 37) ((n + 1) % 37) x10 x11 x12 x14 x15 x16 := by
  by_cases hj : n % 37 = 36
  · have e0 : (n + 1) % 37 = 0 := by omega
    have ep : (n + 1) / 37 = n / 37 + 1 := by omega
    rw [e0, ep]
    rw [hj] at h
    have hp : n / 37 < 4 := by omega
    refine ⟨fun _ => h.t10, fun _ hj => absurd hj (Nat.lt_irrefl 0), fun _ hj => absurd hj (Nat.lt_irrefl 0), fun _ y hy => absurd hy (Nat.not_lt_zero _), fun _ y _ => ?_,
      fun _ hj => absurd hj (Nat.lt_irrefl 0), fun _ _ => ?_, fun _ hj => absurd hj (Nat.lt_irrefl 0)⟩
    · have hy : (y 1).val < 18944 := (y 1).isLt
      exact h.new hp y (by omega)
    · exact h.t15 hp
  · have e0 : (n + 1) % 37 = n % 37 + 1 := by omega
    have ep : (n + 1) / 37 = n / 37 := by omega
    rw [e0, ep]
    exact ⟨fun _ => h.t10, fun hp _ => h.t11 hp, fun hp _ => h.t12 hp, fun hp y hy => h.new hp y (by omega), fun hp y hy => h.old hp y (fun h4 => by have := hy h4; omega),
      fun hp _ => h.t15 hp, fun _ hj => absurd hj (Nat.succ_ne_zero _), fun hp _ => h.t16 hp⟩

section
variable {o : Args} {i : grid0.Coords} {x10 : Vec Ideal S16x128 .bf16} {x11 : Vec Ideal S384x3584 .bf16} {x12 : Vec Ideal S384x16 .bf16}
  {x14 : Vec Ideal S384x18944 .f32} {x15 x16 : Vec Ideal S384x128 .f32}

/-- The table after the step's start. -/
theorem table_eq (h : Pre o (i 0).val (i 1).val x10 x11 x12 x14 x15 x16) : (if first i then table else x10) = table := by
  by_cases hf : first i
  · rw [if_pos hf]
  · rw [if_neg hf]
    rw [first_iff] at hf
    exact h.t10 (by omega)

/-- The permuted rows after the step's start. -/
theorem rows11_eq (h : Pre o (i 0).val (i 1).val x10 x11 x12 x14 x15 x16) (hp : (i 0).val < 4) : rows11 i (o.X (i 0).val) x11 = o.xp (i 0).val := by
  unfold rows11
  by_cases hf : firstOfPass i
  · rw [if_pos hf]; rfl
  · rw [if_neg hf]
    rw [firstOfPass_iff] at hf
    exact h.t11 hp (by omega)

/-- The adapter's inner product after the step's start. -/
theorem low12_eq (h : Pre o (i 0).val (i 1).val x10 x11 x12 x14 x15 x16) (hp : (i 0).val < 4) : low12 i (o.X (i 0).val) o.LA x12 = o.low (i 0).val := by
  unfold low12
  by_cases hf : firstOfPass i
  · rw [if_pos hf]; rfl
  · rw [if_neg hf]
    rw [firstOfPass_iff] at hf
    exact h.t12 hp (by omega)

/-- The running maximum after the step. -/
theorem more_eq (h : Pre o (i 0).val (i 1).val x10 x11 x12 x14 x15 x16) (hp : (i 0).val < 4) :
    o.more (i 0).val (i 1).val (max15 i x15) = o.mx (i 0).val (i 1).val := by
  unfold max15
  by_cases hf : firstOfPass i
  · rw [if_pos hf]
    rw [firstOfPass_iff] at hf
    rw [hf]; rfl
  · rw [if_neg hf]
    rw [firstOfPass_iff] at hf
    rw [h.t15 hp (by omega)]
    obtain ⟨j, hj⟩ : ∃ j, (i 1).val = j + 1 := ⟨(i 1).val - 1, by omega⟩
    rw [hj]; rfl

/-- The inverse scales after the step's start. -/
theorem inv_eq (h : Pre o (i 0).val (i 1).val x10 x11 x12 x14 x15 x16) (hp : 0 < (i 0).val) :
    (if k0_cond2 i = 1#1 then invV x15 else x16) = invV (o.full ((i 0).val - 1)) := by
  by_cases hf : k0_cond2 i = 1#1
  · rw [if_pos hf]
    rw [cond2_iff] at hf
    rw [h.s15 hp hf.2]
  · rw [if_neg hf]
    rw [cond2_iff] at hf
    exact h.t16 hp (by omega)

/-- The block of the result that the point leaves, and what it leaves in the buffers, are the block of the product and the next state. -/
theorem y_eq (h : Pre o (i 0).val (i 1).val x10 x11 x12 x14 x15 x16) (hp : (i 0).val < 4) :
    k0_pay2102 (rows11 i (o.X (i 0).val) x11) (weights (if first i then table else x10) (o.A (i 1).val) (o.W (i 1).val)) (low12 i (o.X (i 0).val) o.LA x12) (o.LB (i 1).val)
      = o.y (i 0).val (i 1).val := by
  rw [table_eq h, rows11_eq h hp, low12_eq h hp]; rfl

/-- The codes that the step writes. -/
theorem codes_eq (h : Pre o (i 0).val (i 1).val x10 x11 x12 x14 x15 x16) (hp : 0 < (i 0).val) :
    codes i x14 (if k0_cond2 i = 1#1 then invV x15 else x16) = o.code ((i 0).val - 1) (i 1).val := by
  rw [inv_eq h hp]
  funext z
  have hz : (z 1).val < 512 := (z 1).isLt
  have hi : (i 1).val < 37 := (i 1).isLt
  unfold codes Args.code
  rw [h.old hp _ (fun _ => ?_)]
  · have e : ((512 * (i 1).val + (z 1).val) % 18944) / 512 = (i 1).val := by omega
    refine congrArg (fun a => RunCodes.code a _) ?_
    show o.row _ (((512 * (i 1).val + (z 1).val) % 18944) / 512) _ = _
    rw [e]
    refine congrArg (o.row _ _) ?_
    funext a
    match a with
    | 0 => rfl
    | 1 => exact Fin.ext (show ((512 * (i 1).val + (z 1).val) % 18944) % 512 = (z 1).val by omega)
  · show (i 1).val ≤ ((512 * (i 1).val + (z 1).val) % 18944) / 512
    omega

/-- The scales after the step. -/
theorem scales_eq (h : Pre o (i 0).val (i 1).val x10 x11 x12 x14 x15 x16) {x9 : Vec Ideal S12x128 .f32}
    (h9 : ∀ y, ((y 0).val / 3 + 1 < (i 0).val ∨ ((y 0).val / 3 < (i 0).val ∧ 0 < (i 1).val)) → x9 y = o.scale y)
    (y : S12x128.Idx) (hy : (y 0).val / 3 < (i 0).val) :
    (if k0_cond2 i = 1#1 then scales i x15 x9 else x9) y = o.scale y := by
  have hy1 : (y 1).val < 128 := (y 1).isLt
  by_cases hf : k0_cond2 i = 1#1
  · rw [if_pos hf]
    rw [cond2_iff] at hf
    unfold scales
    by_cases hr : 3 * ((i 0).val - 1) ≤ (y 0).val ∧ (y 0).val < 3 * ((i 0).val - 1) + 3
    · rw [if_pos hr, h.s15 hf.1 hf.2]
      unfold Args.scale
      have e : (y 0).val / 3 = (i 0).val - 1 := by omega
      rw [e]
      refine congrArg (scaleV _) ?_
      funext a
      match a with
      | 0 => exact Fin.ext (show (128 * ((y 0).val - 3 * ((i 0).val - 1)) + (y 1).val) % 384 = (128 * ((y 0).val % 3) + (y 1).val) % 384 by omega)
      | 1 => rfl
    · rw [if_neg hr]
      exact h9 y (by omega)
  · rw [if_neg hf]
    rw [cond2_iff] at hf
    exact h9 y (by omega)

/-- One point takes the buffers from its state before to its state after. -/
theorem step (h : Pre o (i 0).val (i 1).val x10 x11 x12 x14 x15 x16) :
    Post o (i 0).val (i 1).val (if first i then table else x10)
      (if k0_cond4 i = 1#1 then rows11 i (o.X (i 0).val) x11 else x11)
      (if k0_cond4 i = 1#1 then low12 i (o.X (i 0).val) o.LA x12 else x12)
      (if k0_cond4 i = 1#1 then rows i (k0_pay2103 (rows11 i (o.X (i 0).val) x11) (weights (if first i then table else x10) (o.A (i 1).val) (o.W (i 1).val)) (low12 i (o.X (i 0).val) o.LA x12) (o.LB (i 1).val)) x14 else x14)
      (if k0_cond4 i = 1#1 then k0_pay7 (k0_pay2104 (rows11 i (o.X (i 0).val) x11) (weights (if first i then table else x10) (o.A (i 1).val) (o.W (i 1).val)) (low12 i (o.X (i 0).val) o.LA x12) (o.LB (i 1).val) (max15 i x15)) else x15)
      (if k0_cond2 i = 1#1 then invV x15 else x16) := by
  by_cases hp : (i 0).val < 4
  · have h4 : k0_cond4 i = 1#1 := (cond4_iff i).2 hp
    simp only [if_pos h4]
    rw [table_eq h, rows11_eq h hp, low12_eq h hp]
    refine ⟨rfl, fun _ => rfl, fun _ => rfl, fun _ y hy => ?_, fun h0 y hy => ?_, fun _ => more_eq h hp, fun h0 => inv_eq h h0⟩
    · unfold rows
      by_cases hj : (y 1).val / 512 = (i 1).val
      · rw [if_pos hj, hj]; rfl
      · rw [if_neg hj]
        exact h.new hp y (by omega)
    · unfold rows
      have := hy hp
      rw [if_neg (by omega)]
      exact h.old h0 y (fun _ => by omega)
  · have h4 : ¬ k0_cond4 i = 1#1 := fun h4 => hp ((cond4_iff i).1 h4)
    simp only [if_neg h4]
    rw [table_eq h]
    exact ⟨rfl, fun h => absurd h hp, fun h => absurd h hp, fun h => absurd h hp, fun h0 y _ => h.old h0 y (fun h => absurd h hp), fun h => absurd h hp, fun h0 => inv_eq h h0⟩

end

end Cert.Proof.State

end
-- ==== Proof.Run.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Regions
public import Idealize.ShloMosaic.Lib.VecWindow
public import Idealize.ShloMosaic.Lib.Pointwise
public import Idealize.ShloMosaic.Lib.Pipeline.ReadBack
public import proofs.«01_k».proof.Proof.Tiles
public import proofs.«01_k».proof.Proof.RunCodes
public import proofs.«01_k».proof.Proof.Dequant
public import proofs.«01_k».proof.Proof.RunScales
public import proofs.«01_k».proof.Proof.RunPermute
public import proofs.«01_k».proof.Proof.RunProduct
public import proofs.«01_k».proof.Proof.State
public import proofs.«01_k».proof.Proof.Gen.KernelIdeal.Points
public import Idealize.ShloMosaic.Lib.Pipeline.ArrRel

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Proof.Regions Cert.Proof.Tiles Cert.Proof.RunCodes Cert.Proof.Dequant Cert.Proof.RunScales Cert.Proof.RunProduct Cert.Proof.Body Cert.Proof.State
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

section
variable {o : Args} {i : grid0.Coords} {x10 : Vec Ideal S16x128 .bf16} {x11 : Vec Ideal S384x3584 .bf16} {x12 : Vec Ideal S384x16 .bf16}
  {x14 : Vec Ideal S384x18944 .f32} {x15 x16 : Vec Ideal S384x128 .f32}
  {x2 : Vec Ideal S384x3584 .bf16} {x3 : Vec Ideal S1792x512 .i8} {x4 : Vec Ideal S56x512 .f32} {x5 : Vec Ideal S3584x16 .bf16} {x6 : Vec Ideal S16x512 .bf16}

/-- One point's step, from input blocks that need be the point's own only while the product is computed. -/
theorem step' (h : Pre o (i 0).val (i 1).val x10 x11 x12 x14 x15 x16)
    (hx : (i 0).val < 4 → x2 = o.X (i 0).val ∧ x3 = o.W (i 1).val ∧ x4 = o.A (i 1).val ∧ x5 = o.LA ∧ x6 = o.LB (i 1).val) :
    Post o (i 0).val (i 1).val (if first i then table else x10)
      (if k0_cond4 i = 1#1 then rows11 i x2 x11 else x11)
      (if k0_cond4 i = 1#1 then low12 i x2 x5 x12 else x12)
      (if k0_cond4 i = 1#1 then rows i (k0_pay2103 (rows11 i x2 x11) (weights (if first i then table else x10) x4 x3) (low12 i x2 x5 x12) x6) x14 else x14)
      (if k0_cond4 i = 1#1 then k0_pay7 (k0_pay2104 (rows11 i x2 x11) (weights (if first i then table else x10) x4 x3) (low12 i x2 x5 x12) x6 (max15 i x15)) else x15)
      (if k0_cond2 i = 1#1 then invV x15 else x16) := by
  have hs := step h
  by_cases hp : (i 0).val < 4
  · obtain ⟨e2, e3, e4, e5, e6⟩ := hx hp
    subst e2 e3 e4 e5 e6
    exact hs
  · have h4 : ¬ k0_cond4 i = 1#1 := fun h4 => hp ((cond4_iff i).1 h4)
    simp only [if_neg h4] at hs ⊢
    exact hs

/-- The block of the result that stands after the point. -/
theorem y_eq' (h : Pre o (i 0).val (i 1).val x10 x11 x12 x14 x15 x16)
    (hx : (i 0).val < 4 → x2 = o.X (i 0).val ∧ x3 = o.W (i 1).val ∧ x4 = o.A (i 1).val ∧ x5 = o.LA ∧ x6 = o.LB (i 1).val)
    {x7 : Vec Ideal S384x512 .bf16} (h7 : ¬ (i 0).val < 4 → x7 = o.y 3 36) :
    (if k0_cond4 i = 1#1 then k0_pay2102 (rows11 i x2 x11) (weights (if first i then table else x10) x4 x3) (low12 i x2 x5 x12) x6 else x7)
      = if (i 0).val < 4 then o.y (i 0).val (i 1).val else o.y 3 36 := by
  by_cases hp : (i 0).val < 4
  · obtain ⟨e2, e3, e4, e5, e6⟩ := hx hp
    subst e2 e3 e4 e5 e6
    rw [if_pos ((cond4_iff i).2 hp), if_pos hp]
    exact y_eq h hp
  · rw [if_neg fun h4 => hp ((cond4_iff i).1 h4), if_neg hp]
    exact h7 hp

end

/-! ## The blocks of the launch's arrays -/

/-- The arrays as the region begins, by blocks. -/
def args (c : Dev nD) : Args where
  X p := fun y => (V m c main_v0 : Vec Ideal S1536x3584 .bf16) (ix2 ⟨(384 * p + (y 0).val) % 1536, Nat.mod_lt _ (by omega)⟩ (y 1))
  W j := fun y => (V m c main_arg1 : Vec Ideal S1792x18944 .i8) (ix2 (y 0) ⟨(512 * j + (y 1).val) % 18944, Nat.mod_lt _ (by omega)⟩)
  A j := fun y => (V m c main_arg2 : Vec Ideal S56x18944 .f32) (ix2 (y 0) ⟨(512 * j + (y 1).val) % 18944, Nat.mod_lt _ (by omega)⟩)
  LA := fun y => (V m c main_arg3 : Vec Ideal S3584x16 .bf16) y
  LB j := fun y => (V m c main_arg4 : Vec Ideal S16x18944 .bf16) (ix2 (y 0) ⟨(512 * j + (y 1).val) % 18944, Nat.mod_lt _ (by omega)⟩)

/-- The row block, and the column block, that a point has in its input buffers. -/
abbrev pb (t : ℕ) : ℕ := if t / 37 < 4 then t / 37 else 3
abbrev jb (t : ℕ) : ℕ := if t / 37 < 4 then t % 37 else 36

theorem coord0 : ∀ t : Fin cfg0.N, (grid0.coords t 0).val = t.val / 37 := by decide +kernel
theorem coord1 : ∀ t : Fin cfg0.N, (grid0.coords t 1).val = t.val % 37 := by decide +kernel
theorem index0 : ∀ t : Fin cfg0.N, cc0_transform_0 (grid0.coords t) = ![pb t.val, 0] := by decide +kernel
theorem index1 : ∀ t : Fin cfg0.N, cc0_transform_1 (grid0.coords t) = ![0, jb t.val] := by decide +kernel
theorem index2 : ∀ t : Fin cfg0.N, cc0_transform_2 (grid0.coords t) = ![0, jb t.val] := by decide +kernel
theorem index3 : ∀ t : Fin cfg0.N, cc0_transform_3 (grid0.coords t) = ![0, 0] := by decide +kernel
theorem index4 : ∀ t : Fin cfg0.N, cc0_transform_4 (grid0.coords t) = ![0, jb t.val] := by decide +kernel
theorem index5 : ∀ t : Fin cfg0.N, cc0_transform_5 (grid0.coords t) = ![pb t.val, jb t.val] := by decide +kernel
theorem index6 : ∀ t : Fin cfg0.N, cc0_transform_6 (grid0.coords t) = ![t.val / 37 - 1, if 0 < t.val / 37 then t.val % 37 else 0] := by decide +kernel
theorem index7 : ∀ t : Fin cfg0.N, cc0_transform_7 (grid0.coords t) = ![0, 0] := by decide +kernel

theorem still0 : ∀ t : Fin cfg0.N, (cfg0.win 0).fetch t = false → t.val ≠ 0 ∧ pb (t.val - 1) = pb t.val := by decide +kernel
theorem still1 : ∀ t : Fin cfg0.N, (cfg0.win 1).fetch t = false → t.val ≠ 0 ∧ jb (t.val - 1) = jb t.val := by decide +kernel
theorem still2 : ∀ t : Fin cfg0.N, (cfg0.win 2).fetch t = false → t.val ≠ 0 ∧ jb (t.val - 1) = jb t.val := by decide +kernel
theorem still3 : ∀ t : Fin cfg0.N, (cfg0.win 3).fetch t = false → t.val ≠ 0 := by decide +kernel
theorem still4 : ∀ t : Fin cfg0.N, (cfg0.win 4).fetch t = false → t.val ≠ 0 ∧ jb (t.val - 1) = jb t.val := by decide +kernel
theorem flush5 : ∀ t : Fin cfg0.N, 148 ≤ t.val → (cfg0.win 5).flush ⟨t.val - 1, Nat.lt_of_le_of_lt (Nat.sub_le _ _) t.isLt⟩ = false := by decide +kernel
theorem flush6 : ∀ t : Fin cfg0.N, (cfg0.win 6).flush t = true → 0 < t.val / 37 := by decide +kernel
theorem flush7 : ∀ t : Fin cfg0.N, (cfg0.win 7).flush t = true → t.val = 184 := by decide +kernel

theorem block0 (c : Dev nD) (t : Fin cfg0.N) : (iblk m c 0 t : Vec Ideal S384x3584 .bf16) = (args m c).X (pb t.val) := by
  funext y
  have h0 : (y 0).val < 384 := (y 0).isLt
  have h1 : (y 1).val < 3584 := (y 1).isLt
  refine congrArg (V m c main_v0) ?_
  funext a
  refine Fin.ext ((Window.rect_emb_val win0_0 t y a).trans ?_)
  show cc0_transform_0 (grid0.coords t) a * S384x3584.size a + (y a).val = _
  rw [index0]
  match a with
  | 0 => show pb t.val * 384 + (y 0).val = (384 * pb t.val + (y 0).val) % 1536; unfold pb; split <;> omega
  | 1 => show 0 * 3584 + (y 1).val = (y 1).val; omega

theorem block1 (c : Dev nD) (t : Fin cfg0.N) : (iblk m c 1 t : Vec Ideal S1792x512 .i8) = (args m c).W (jb t.val) := by
  funext y
  have h1 : (y 1).val < 512 := (y 1).isLt
  have ht : t.val < 185 := t.isLt
  refine congrArg (V m c main_arg1) ?_
  funext a
  refine Fin.ext ((Window.rect_emb_val win0_1 t y a).trans ?_)
  show cc0_transform_1 (grid0.coords t) a * S1792x512.size a + (y a).val = _
  rw [index1]
  match a with
  | 0 => show 0 * 1792 + (y 0).val = (y 0).val; omega
  | 1 => show jb t.val * 512 + (y 1).val = (512 * jb t.val + (y 1).val) % 18944; unfold jb; split <;> omega

theorem block2 (c : Dev nD) (t : Fin cfg0.N) : (iblk m c 2 t : Vec Ideal S56x512 .f32) = (args m c).A (jb t.val) := by
  funext y
  have h1 : (y 1).val < 512 := (y 1).isLt
  have ht : t.val < 185 := t.isLt
  refine congrArg (V m c main_arg2) ?_
  funext a
  refine Fin.ext ((Window.rect_emb_val win0_2 t y a).trans ?_)
  show cc0_transform_2 (grid0.coords t) a * S56x512.size a + (y a).val = _
  rw [index2]
  match a with
  | 0 => show 0 * 56 + (y 0).val = (y 0).val; omega
  | 1 => show jb t.val * 512 + (y 1).val = (512 * jb t.val + (y 1).val) % 18944; unfold jb; split <;> omega

theorem block4 (c : Dev nD) (t : Fin cfg0.N) : (iblk m c 4 t : Vec Ideal S16x512 .bf16) = (args m c).LB (jb t.val) := by
  funext y
  have h1 : (y 1).val < 512 := (y 1).isLt
  have ht : t.val < 185 := t.isLt
  refine congrArg (V m c main_arg4) ?_
  funext a
  refine Fin.ext ((Window.rect_emb_val win0_4 t y a).trans ?_)
  show cc0_transform_4 (grid0.coords t) a * S16x512.size a + (y a).val = _
  rw [index4]
  match a with
  | 0 => show 0 * 16 + (y 0).val = (y 0).val; omega
  | 1 => show jb t.val * 512 + (y 1).val = (512 * jb t.val + (y 1).val) % 18944; unfold jb; split <;> omega

theorem block3 (c : Dev nD) (t : Fin cfg0.N) : (iblk m c 3 t : Vec Ideal S3584x16 .bf16) = (args m c).LA := by
  funext y
  refine congrArg (V m c main_arg3) ?_
  funext a
  refine Fin.ext ((Window.rect_emb_val win0_3 t y a).trans ?_)
  show cc0_transform_3 (grid0.coords t) a * S3584x16.size a + (y a).val = _
  rw [index3]
  match a with
  | 0 => show 0 * 3584 + (y 0).val = (y 0).val; omega
  | 1 => show 0 * 16 + (y 1).val = (y 1).val; omega

/-! ## The proof data -/

/-- What the buffers kept from point to point hold before point `n`: the state before it, or anything after the last. -/
def Φ (c : Dev nD) (n : Fin (cfg0.N + 1)) : sProp 𝕄 :=
  iprop((∃ (s0 : Vec Ideal S16x128 .bf16) (s1 : Vec Ideal S384x3584 .bf16) (s2 : Vec Ideal S384x16 .bf16) (s3 : Vec Ideal S3584x512 .bf16) (s4 : Vec Ideal S384x18944 .f32) (s5 : Vec Ideal S384x128 .f32) (s6 : Vec Ideal S384x128 .f32),
    ⌜n.val < 185 → Pre (args m c) (n.val / 37) (n.val % 37) s0 s1 s2 s4 s5 s6⌝
    ∗ owns (c : Thread nD τ) (Memref.whole cc0_scratch0) fullShare s0 ∗ owns (c : Thread nD τ) (Memref.whole cc0_scratch1) fullShare s1
    ∗ owns (c : Thread nD τ) (Memref.whole cc0_scratch2) fullShare s2 ∗ owns (c : Thread nD τ) (Memref.whole cc0_scratch3) fullShare s3
    ∗ owns (c : Thread nD τ) (Memref.whole cc0_scratch4) fullShare s4 ∗ owns (c : Thread nD τ) (Memref.whole cc0_scratch5) fullShare s5
    ∗ owns (c : Thread nD τ) (Memref.whole cc0_scratch6) fullShare s6) ∗ ∃ r, prngReg c r)

/-- What the body leaves in each window's block: an input block as it was; the product's block; the codes' block from
    the second pass on; the scales of the row blocks whose codes have begun. -/
def rdat (c : Dev nD) : RDat τ (Elt Ideal) Unit ℕ (UR sig nD τ) ℕ cfg0 c where
  A w := V m c (Pipeline.arrRef spec0 w)
  after w t _ X := match w with
    | ⟨0, _⟩ => X = (args m c).X (pb t.val)
    | ⟨1, _⟩ => X = (args m c).W (jb t.val)
    | ⟨2, _⟩ => X = (args m c).A (jb t.val)
    | ⟨3, _⟩ => X = (args m c).LA
    | ⟨4, _⟩ => X = (args m c).LB (jb t.val)
    | ⟨5, _⟩ => X = (args m c).y (pb t.val) (jb t.val)
    | ⟨6, _⟩ => 0 < t.val / 37 → X = (args m c).code (t.val / 37 - 1) (t.val % 37)
    | ⟨7, _⟩ => ∀ y : S12x128.Idx, (y 0).val / 3 < t.val / 37 → X y = (args m c).scale y
  Φ n := Φ m c n
  q _ := fullShare
  owed _ := 0

/-- Input window 0 holds its block at every point. -/
theorem finds0 (c : Dev nD) (t : Fin cfg0.N) (X : Vec Ideal S384x3584 .bf16) (h : (rdat m c).Finds 0 t X) : X = (args m c).X (pb t.val) := by
  by_cases hf : (cfg0.win 0).fetch t = true
  · obtain ⟨d, hd⟩ := ((rdat m c).finds_of_fetch hf X).1 h
    exact hd.trans ((show (rdat m c).fetched 0 t d = iblk m c 0 t from rfl).trans (block0 m c t))
  · have hf := Bool.eq_false_iff.2 hf
    have hs := still0 t hf
    rcases ((rdat m c).finds_of_pos hf hs.1 X).1 h with h | h
    · exact absurd h (by rw [show (cfg0.win 0).flush _ = false from rfl]; exact Bool.false_ne_true)
    · obtain ⟨_, _, hX⟩ := h
      have hX : X = (args m c).X (pb (t.val - 1)) := hX
      rw [hX, hs.2]

/-- Input window 1 holds its block at every point. -/
theorem finds1 (c : Dev nD) (t : Fin cfg0.N) (X : Vec Ideal S1792x512 .i8) (h : (rdat m c).Finds 1 t X) : X = (args m c).W (jb t.val) := by
  by_cases hf : (cfg0.win 1).fetch t = true
  · obtain ⟨d, hd⟩ := ((rdat m c).finds_of_fetch hf X).1 h
    exact hd.trans ((show (rdat m c).fetched 1 t d = iblk m c 1 t from rfl).trans (block1 m c t))
  · have hf := Bool.eq_false_iff.2 hf
    have hs := still1 t hf
    rcases ((rdat m c).finds_of_pos hf hs.1 X).1 h with h | h
    · exact absurd h (by rw [show (cfg0.win 1).flush _ = false from rfl]; exact Bool.false_ne_true)
    · obtain ⟨_, _, hX⟩ := h
      have hX : X = (args m c).W (jb (t.val - 1)) := hX
      rw [hX, hs.2]

/-- Input window 2 holds its block at every point. -/
theorem finds2 (c : Dev nD) (t : Fin cfg0.N) (X : Vec Ideal S56x512 .f32) (h : (rdat m c).Finds 2 t X) : X = (args m c).A (jb t.val) := by
  by_cases hf : (cfg0.win 2).fetch t = true
  · obtain ⟨d, hd⟩ := ((rdat m c).finds_of_fetch hf X).1 h
    exact hd.trans ((show (rdat m c).fetched 2 t d = iblk m c 2 t from rfl).trans (block2 m c t))
  · have hf := Bool.eq_false_iff.2 hf
    have hs := still2 t hf
    rcases ((rdat m c).finds_of_pos hf hs.1 X).1 h with h | h
    · exact absurd h (by rw [show (cfg0.win 2).flush _ = false from rfl]; exact Bool.false_ne_true)
    · obtain ⟨_, _, hX⟩ := h
      have hX : X = (args m c).A (jb (t.val - 1)) := hX
      rw [hX, hs.2]

/-- Input window 3 holds its block at every point. -/
theorem finds3 (c : Dev nD) (t : Fin cfg0.N) (X : Vec Ideal S3584x16 .bf16) (h : (rdat m c).Finds 3 t X) : X = (args m c).LA := by
  by_cases hf : (cfg0.win 3).fetch t = true
  · obtain ⟨d, hd⟩ := ((rdat m c).finds_of_fetch hf X).1 h
    exact hd.trans ((show (rdat m c).fetched 3 t d = iblk m c 3 t from rfl).trans (block3 m c t))
  · have hf := Bool.eq_false_iff.2 hf
    have hs := still3 t hf
    rcases ((rdat m c).finds_of_pos hf hs X).1 h with h | h
    · exact absurd h (by rw [show (cfg0.win 3).flush _ = false from rfl]; exact Bool.false_ne_true)
    · obtain ⟨_, _, hX⟩ := h
      have hX : X = (args m c).LA := hX
      rw [hX]

/-- Input window 4 holds its block at every point. -/
theorem finds4 (c : Dev nD) (t : Fin cfg0.N) (X : Vec Ideal S16x512 .bf16) (h : (rdat m c).Finds 4 t X) : X = (args m c).LB (jb t.val) := by
  by_cases hf : (cfg0.win 4).fetch t = true
  · obtain ⟨d, hd⟩ := ((rdat m c).finds_of_fetch hf X).1 h
    exact hd.trans ((show (rdat m c).fetched 4 t d = iblk m c 4 t from rfl).trans (block4 m c t))
  · have hf := Bool.eq_false_iff.2 hf
    have hs := still4 t hf
    rcases ((rdat m c).finds_of_pos hf hs.1 X).1 h with h | h
    · exact absurd h (by rw [show (cfg0.win 4).flush _ = false from rfl]; exact Bool.false_ne_true)
    · obtain ⟨_, _, hX⟩ := h
      have hX : X = (args m c).LB (jb (t.val - 1)) := hX
      rw [hX, hs.2]

end Cert.Proof.Run

end
-- ==== Proof.IdealRun.lean ====
module

public import proofs.«01_k».proof.Proof.Run

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Proof.Regions Cert.Proof.Tiles Cert.Proof.RunCodes Cert.Proof.Dequant Cert.Proof.RunScales Cert.Proof.RunProduct Cert.Proof.Body Cert.Proof.State
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-! ## What the result windows hold when a point begins -/

/-- After the last block of the product the result's window holds that block. -/
theorem finds5 (c : Dev nD) (t : Fin cfg0.N) (X : Vec Ideal S384x512 .bf16) (h : (rdat m c).Finds 5 t X) (ht : ¬ t.val / 37 < 4) :
    X = (args m c).y 3 36 := by
  have h0 : t.val ≠ 0 := by omega
  rcases ((rdat m c).finds_of_pos (w := 5) rfl h0 X).1 h with h | h
  · exact absurd h (by rw [flush5 t (by omega)]; exact Bool.false_ne_true)
  · obtain ⟨_, _, hX⟩ := h
    have hX : X = (args m c).y (pb (t.val - 1)) (jb (t.val - 1)) := hX
    rw [hX]
    have e1 : pb (t.val - 1) = 3 := by unfold pb; split <;> omega
    have e2 : jb (t.val - 1) = 36 := by unfold jb; split <;> omega
    rw [e1, e2]

/-- The scales of the row blocks whose codes began before the point are in the scales' window. -/
theorem finds7 (c : Dev nD) (t : Fin cfg0.N) (X : Vec Ideal S12x128 .f32) (h : (rdat m c).Finds 7 t X) (y : S12x128.Idx)
    (hy : (y 0).val / 3 + 1 < t.val / 37 ∨ ((y 0).val / 3 < t.val / 37 ∧ 0 < t.val % 37)) : X y = (args m c).scale y := by
  have h0 : t.val ≠ 0 := by omega
  have hN : t.val < 185 := t.isLt
  rcases ((rdat m c).finds_of_pos (w := 7) rfl h0 X).1 h with h | h
  · have := flush7 _ h
    exact absurd (show t.val - 1 = 184 from this) (by omega)
  · obtain ⟨_, _, hX⟩ := h
    have hX : ∀ y : S12x128.Idx, (y 0).val / 3 < (t.val - 1) / 37 → X y = (args m c).scale y := hX
    exact hX y (by omega)

/-! ## The body's obligation -/

theorem _root_.Cert.Proof.State.Post.cast {o : Args} {p q j k : ℕ} {x10 x11 x12 x14 x15 x16} (h : Post o p j x10 x11 x12 x14 x15 x16) (hp : p = q) (hj : j = k) :
    Post o q k x10 x11 x12 x14 x15 x16 := by
  subst hp hj; exact h

/-- The body table's row at a grid point is the body at that point's blocks. -/
theorem bodyRow (t : Fin cfg0.N) :
    defs₀ (F := Ideal) .tc cfg0.body (cfg0.bodyArgs t (cfg0.slots t)) = bodyAt0 t := by
  unfold defs₀; rw [Defs.onTc_tc]

set_option maxHeartbeats 4000000 in
/-- The body takes every grid point's state to the next point's and leaves its blocks. -/
theorem body (c : Dev nD) : (rdat m c).BodyObligation (defs₀ (F := Ideal)) Variants.none () Set.univ := fun t Y hY => by
  have hY0 := finds0 m c t (Y 0) (hY 0)
  have hY1 := finds1 m c t (Y 1) (hY 1)
  have hY2 := finds2 m c t (Y 2) (hY 2)
  have hY3 := finds3 m c t (Y 3) (hY 3)
  have hY4 := finds4 m c t (Y 4) (hY 4)
  have hY5 := finds5 m c t (Y 5) (hY 5)
  have hY7 := finds7 m c t (Y 7) (hY 7)
  have e0 := coord0 t
  have e1 := coord1 t
  have hN : t.val < 185 := t.isLt
  have hx : (grid0.coords t 0).val < 4 → Y 0 = (args m c).X (grid0.coords t 0).val ∧ Y 1 = (args m c).W (grid0.coords t 1).val
      ∧ Y 2 = (args m c).A (grid0.coords t 1).val ∧ Y 3 = (args m c).LA ∧ Y 4 = (args m c).LB (grid0.coords t 1).val := fun hp => by
    rw [e0] at hp
    rw [e0, e1, hY0, hY1, hY2, hY3, hY4]
    unfold pb jb
    rw [if_pos hp, if_pos hp]
    exact ⟨rfl, rfl, rfl, rfl, rfl⟩
  rw [bigSep_W0, bigSep_W0, bodyRow]
  rw [show (rdat m c).owesAt () t.succ = (rdat m c).owesAt () t.castSucc from rfl]
  rw [show (rdat m c).Φ t.castSucc = Φ m c t.castSucc from rfl, show (rdat m c).Φ t.succ = Φ m c t.succ from rfl]
  unfold Φ bodyAt0
  iintro ⟨⟨⟨%s0, %s1, %s2, %s3, %s4, %s5, %s6, %hpre, S0, S1, S2, S3, S4, S5, S6⟩, Hr⟩, Ho, H0, H1, H2, H3, H4, H5, H6, H7⟩
  have hpre : Pre (args m c) (grid0.coords t 0).val (grid0.coords t 1).val s0 s1 s2 s4 s5 s6 := by
    rw [e0, e1]; exact hpre hN
  have hpost := step' hpre hx
  have hy := y_eq' hpre hx (x7 := Y 5) (fun hp => hY5 (by rw [← e0]; exact hp))
  have hs := fun y => scales_eq hpre (x9 := Y 7) (fun y hy => hY7 y (by rw [← e0, ← e1]; exact hy)) y
  iapply (Body.run c Set.univ _ _ _ _ _ _ _ _ _ _ _ _ _ _ _ _ _ _ _ _ _ _ _ _ _ _ _ _ _ _ _ (Y 0) (Y 3) s0 (Y 1) (Y 2) s1 s2 (Y 4) (Y 5) s3 s4 s5 (Y 6) (Y 7) s6)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, S0, S1, S2, ⟨%s3', S3⟩, S4, S5, S6⟩
  isplitl [S0 S1 S2 S3 S4 S5 S6 Hr]
  · isplitr [Hr]
    swap; · iexact Hr
    iexists _, _, _, _, _, _, _
    isplitr
    swap
    · isplitl [S0]; · iexact S0
      isplitl [S1]; · iexact S1
      isplitl [S2]; · iexact S2
      isplitl [S3]; · iexact S3
      isplitl [S4]; · iexact S4
      isplitl [S5]; · iexact S5
      iexact S6
    ipureintro
    intro hn
    exact (hpost.cast e0 e1).next hn
  isplitl [Ho]; · iexact Ho
  isplitl [H0]
  · iexists _; isplitr; swap; · iexact H0
    ipureintro; exact hY0
  isplitl [H1]
  · iexists _; isplitr; swap; · iexact H1
    ipureintro; exact hY1
  isplitl [H2]
  · iexists _; isplitr; swap; · iexact H2
    ipureintro; exact hY2
  isplitl [H3]
  · iexists _; isplitr; swap; · iexact H3
    ipureintro; exact hY3
  isplitl [H4]
  · iexists _; isplitr; swap; · iexact H4
    ipureintro; exact hY4
  isplitl [H5]
  · iexists _; isplitr; swap; · iexact H5
    ipureintro
    refine hy.trans ?_
    rw [e0, e1]
    show _ = (args m c).y (pb t.val) (jb t.val)
    unfold pb jb
    split <;> rfl
  isplitl [H6]
  · iexists _; isplitr; swap; · iexact H6
    ipureintro
    intro hp
    have hp' : 0 < (grid0.coords t 0).val := by rw [e0]; exact hp
    rw [if_pos ((cond3_iff _).2 hp')]
    refine (codes_eq hpre hp').trans ?_
    rw [e0, e1]
  iexists _; isplitr; swap; · iexact H7
  ipureintro
  intro y hy
  exact hs y (by rw [e0]; exact hy)

/-! ## The run -/

set_option backward.isDefEq.respectTransparency.types false in
set_option maxHeartbeats 800000 in
/-- Every weakly fair execution of the program ends, with the arrays at contents the body may have left and every
    counter at zero. -/
theorem run : θ_run defs (onTc (τ := τ) (main (F := Ideal))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => body m c) (hshare := fun c => (rdat m c).share_full fun _ => rfl)
    (howed := fun _ _ => rfl) (V := V m) (hmain := hmain m Variants.none) (hA := fun _ _ => rfl)
    (hin := fun c => by
      rw [show (rdat m c).Φ 0 = Φ m c 0 from rfl]
      unfold Pipeline.ΦA Φ
      rw [scopedRest0_eq]
      simp only [← owns_whole]
      iintro ⟨⟨⟨%s0, S0⟩, ⟨%s1, S1⟩, ⟨%s2, S2⟩, ⟨%s3, S3⟩, ⟨%s4, S4⟩, ⟨%s5, S5⟩, ⟨%s6, S6⟩⟩, Hr⟩
      isplitr [Hr]
      swap; · iexact Hr
      iexists s0, s1, s2, s3, s4, s5, s6
      isplitr
      swap
      · isplitl [S0]; · iexact S0
        isplitl [S1]; · iexact S1
        isplitl [S2]; · iexact S2
        isplitl [S3]; · iexact S3
        isplitl [S4]; · iexact S4
        isplitl [S5]; · iexact S5
        iexact S6
      ipureintro
      intro _
      exact ⟨fun h => absurd h (by decide), fun _ h => absurd h (by decide), fun _ h => absurd h (by decide), fun _ y h => absurd h (Nat.not_lt_zero _), fun h => absurd h (by decide),
        fun _ h => absurd h (by decide), fun h => absurd h (by decide), fun h => absurd h (by decide)⟩)
    (hout := fun c => by
      rw [show (rdat m c).Φ (Fin.last _) = Φ m c (Fin.last _) from rfl]
      unfold Pipeline.ΦA Φ
      rw [scopedRest0_eq]
      simp only [← owns_whole]
      iintro ⟨⟨%s0, %s1, %s2, %s3, %s4, %s5, %s6, %hpre, S0, S1, S2, S3, S4, S5, S6⟩, Hr⟩
      isplitr [Hr]
      swap; · iexact Hr
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6)

/-- The arguments end as they were launched. -/
theorem kept {r : PUnit × MemSt nD τ sig (Elt Ideal)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨((h c).2 main_arg0 (Pipeline.mem_restRefs_of main_arg0 (by decide) (by decide))).trans (V_main_arg0 m c), ?_, ?_, ?_, ?_⟩
  · have := (h c).1 1
    rw [RDat.ArrAt_in _ 1 rfl] at this
    exact this.trans (V_main_arg1 m c)
  · have := (h c).1 2
    rw [RDat.ArrAt_in _ 2 rfl] at this
    exact this.trans (V_main_arg2 m c)
  · have := (h c).1 3
    rw [RDat.ArrAt_in _ 3 rfl] at this
    exact this.trans (V_main_arg3 m c)
  · have := (h c).1 4
    rw [RDat.ArrAt_in _ 4 rfl] at this
    exact this.trans (V_main_arg4 m c)

end Cert.Proof.Run

end
-- ==== Proof.Arrays.lean ====
module

public import proofs.«01_k».proof.Proof.IdealRun
public import Idealize.ShloMosaic.Lib.Pipeline.ValueKit

@[expose] public section

set_option pp.maxSteps 3000

noncomputable section

namespace Cert.Proof.Arrays

open Cert.KernelIdeal Cert.KernelIdeal.Gen
open Idealize.ShloMosaic Idealize.ShloMosaic.TcCoe Idealize.ShloMosaic.Tactic
open Idealize.SL Idealize.SL.Sem Cert.Proof.State Cert.Proof.Run
open Idealize.ShloMosaic.Pipeline (Dat RDat Cfg Window cellOf)

/-! The result arrays, from the blocks that are written back. -/

variable (m : (ℓ : Loc nD τ sig) → Buf (Elt Ideal) ℓ)

/-- The product's array, from its blocks. -/
def whole5 (c : Dev nD) : Vec Ideal S1536x18944 .bf16 := fun i =>
  (args m c).y ((i 0).val / 384) ((i 1).val / 512) (ix2 ⟨(i 0).val % 384, Nat.mod_lt _ (by omega)⟩ ⟨(i 1).val % 512, Nat.mod_lt _ (by omega)⟩)

/-- The codes' array, from its blocks. -/
def whole6 (c : Dev nD) : Vec Ideal S1536x18944 .fp8e4m3 := fun i =>
  (args m c).code ((i 0).val / 384) ((i 1).val / 512) (ix2 ⟨(i 0).val % 384, Nat.mod_lt _ (by omega)⟩ ⟨(i 1).val % 512, Nat.mod_lt _ (by omega)⟩)

variable {m} {r : PUnit × MemSt nD τ sig (Elt Ideal)} (h : Pipeline.RDat.FramePost (cfgs 0) (rdat m) (V m) r) (c : Dev nD)
include h

theorem arr5 : r.2.mem ((c.tc : Thread nD τ).loc main_v1_0) = whole5 m c := by
  obtain ⟨after, hl, ha⟩ := h.exists_exact c
  refine (ha 5).trans ?_
  refine Dat.arrAt_eq_of_covers ((rdat m c).withAfter after) 5 (whole5 m c) (by decide +kernel) fun t hf y => ?_
  have hX : after 5 t = (args m c).y (pb t.val) (jb t.val) := by
    obtain ⟨_, _, hX⟩ := hl 5 t hf
    exact hX
  have h0 : (y 0).val < 384 := (y 0).isLt
  have h1 : (y 1).val < 512 := (y 1).isLt
  have ht : t.val < 185 := t.isLt
  refine (show _ = after 5 t (ix2 ⟨(y 0).val, h0⟩ ⟨(y 1).val, h1⟩) from congrArg (after 5 t) (by funext a; match a with | 0 => rfl | 1 => rfl)).trans ?_
  rw [hX]
  have e0 : ((((cfg0.win 5).blk t).view.emb y) 0).val = pb t.val * 384 + (y 0).val := by
    refine (Window.rect_emb_val win0_5 t y 0).trans ?_
    show cc0_transform_5 (grid0.coords t) 0 * 384 + (y 0).val = _
    rw [index5]; rfl
  have e1 : ((((cfg0.win 5).blk t).view.emb y) 1).val = jb t.val * 512 + (y 1).val := by
    refine (Window.rect_emb_val win0_5 t y 1).trans ?_
    show cc0_transform_5 (grid0.coords t) 1 * 512 + (y 1).val = _
    rw [index5]; rfl
  unfold whole5
  have key : ∀ (a b : ℕ) (z z' : S384x512.Idx), a = pb t.val → b = jb t.val → z = z' → (args m c).y (pb t.val) (jb t.val) z' = (args m c).y a b z := by
    rintro a b z z' rfl rfl rfl; rfl
  refine key _ _ _ _ (by rw [e0]; omega) (by rw [e1]; omega) ?_
  funext a
  match a with
  | 0 => exact Fin.ext (by show _ % 384 = (y 0).val; rw [e0]; omega)
  | 1 => exact Fin.ext (by show _ % 512 = (y 1).val; rw [e1]; omega)

/-- After the run the codes' array is the one put together from the blocks. -/
theorem arr6 : r.2.mem ((c.tc : Thread nD τ).loc main_v1_1) = whole6 m c := by
  obtain ⟨after, hl, ha⟩ := h.exists_exact c
  refine (ha 6).trans ?_
  refine Dat.arrAt_eq_of_covers ((rdat m c).withAfter after) 6 (whole6 m c) (by decide +kernel) fun t hf y => ?_
  have hp := flush6 t hf
  have hX : after 6 t = (args m c).code (t.val / 37 - 1) (t.val % 37) := by
    obtain ⟨_, _, hX⟩ := hl 6 t hf
    exact hX hp
  have h0 : (y 0).val < 384 := (y 0).isLt
  have h1 : (y 1).val < 512 := (y 1).isLt
  have ht : t.val < 185 := t.isLt
  refine (show _ = after 6 t (ix2 ⟨(y 0).val, h0⟩ ⟨(y 1).val, h1⟩) from congrArg (after 6 t) (by funext a; match a with | 0 => rfl | 1 => rfl)).trans ?_
  rw [hX]
  have e0 : ((((cfg0.win 6).blk t).view.emb y) 0).val = (t.val / 37 - 1) * 384 + (y 0).val := by
    refine (Window.rect_emb_val win0_6 t y 0).trans ?_
    show cc0_transform_6 (grid0.coords t) 0 * 384 + (y 0).val = _
    rw [index6]; rfl
  have e1 : ((((cfg0.win 6).blk t).view.emb y) 1).val = t.val % 37 * 512 + (y 1).val := by
    refine (Window.rect_emb_val win0_6 t y 1).trans ?_
    show cc0_transform_6 (grid0.coords t) 1 * 512 + (y 1).val = _
    rw [index6, if_pos hp]; rfl
  unfold whole6
  have key : ∀ (a b : ℕ) (z z' : S384x512.Idx), a = t.val / 37 - 1 → b = t.val % 37 → z = z' → (args m c).code (t.val / 37 - 1) (t.val % 37) z' = (args m c).code a b z := by
    rintro a b z z' rfl rfl rfl; rfl
  refine key _ _ _ _ (by rw [e0]; omega) (by rw [e1]; omega) ?_
  funext a
  match a with
  | 0 => exact Fin.ext (by show _ % 384 = (y 0).val; rw [e0]; omega)
  | 1 => exact Fin.ext (by show _ % 512 = (y 1).val; rw [e1]; omega)

/-- After the run the scales' array holds each token's scale. -/
theorem arr7 : r.2.mem ((c.tc : Thread nD τ).loc main_v1_2) = fun i => (args m c).scale i := by
  obtain ⟨after, hl, ha⟩ := h.exists_exact c
  refine (ha 7).trans ?_
  refine Dat.arrAt_eq_of_covers ((rdat m c).withAfter after) 7 (fun i => (args m c).scale i) (by decide +kernel) fun t hf y => ?_
  have ht := flush7 t hf
  have h0 : (y 0).val < 12 := (y 0).isLt
  have h1 : (y 1).val < 128 := (y 1).isLt
  have hX : ∀ y : S12x128.Idx, (y 0).val / 3 < t.val / 37 → after 7 t y = (args m c).scale y := by
    obtain ⟨_, _, hX⟩ := hl 7 t hf
    exact hX
  refine (show _ = after 7 t (ix2 ⟨(y 0).val, h0⟩ ⟨(y 1).val, h1⟩) from congrArg (after 7 t) (by funext a; match a with | 0 => rfl | 1 => rfl)).trans ?_
  refine (hX (ix2 ⟨(y 0).val, h0⟩ ⟨(y 1).val, h1⟩) (show (y 0).val / 3 < t.val / 37 by omega)).trans (congrArg (args m c).scale ?_)
  funext a
  refine Fin.ext (Eq.symm ((Window.rect_emb_val win0_7 t y a).trans ?_))
  show cc0_transform_7 (grid0.coords t) a * S12x128.size a + (y a).val = _
  rw [index7]
  match a with
  | 0 => show 0 * 12 + (y 0).val = (y 0).val; omega
  | 1 => show 0 * 128 + (y 1).val = (y 1).val; omega

end Cert.Proof.Arrays

end
-- ==== Proof.Scale.lean ====
/-
  The quantiser's power of two, over the extended reals: the kernel's binary search for the exponent field of a
  nonnegative value, and the scale and inverse scale it builds from it, against "the least power of two above".
-/
module

public import Idealize.ShloMosaic.PureOps.Ideal
public import Idealize.ShloMosaic.Lib.IdealHost

@[expose] public section

noncomputable section

namespace Cert.Proof.Scale

open Idealize.ShloMosaic

/-- The value of the float32 pattern with exponent field `e` and zero fraction. -/
def pw (e : ℕ) : EReal := Ideal.ieee 8 23 (BitVec.ofNat 32 e <<< (23 : ℕ))

theorem fields : ∀ e : Fin 256, ((BitVec.ofNat 32 e.val <<< (23 : ℕ)).extractLsb' 31 1 == 1#1) = false
    ∧ ((BitVec.ofNat 32 e.val <<< (23 : ℕ)).extractLsb' 23 8).toNat = e.val
    ∧ ((BitVec.ofNat 32 e.val <<< (23 : ℕ)).extractLsb' 0 23).toNat = 0 := by decide +kernel

/-- A pattern with a clear sign, exponent field `e` and zero fraction, read. -/
theorem ieee_field (b : BitVec 32) (e : ℕ) (h1 : (b.extractLsb' 31 1 == 1#1) = false) (h2 : (b.extractLsb' 23 8).toNat = e)
    (h3 : (b.extractLsb' 0 23).toNat = 0) :
    Ideal.ieee 8 23 b = if e = 255 then ⊤ else if e = 0 then ((0 : ℝ) : EReal) else (((2 ^ 23 : ℝ) * (2 : ℝ) ^ ((e : ℤ) - 150) : ℝ) : EReal) := by
  unfold Ideal.ieee
  dsimp only
  rw [show (b.extractLsb' (8 + 23) 1 == 1#1) = false from h1, h2, h3]
  by_cases h : e = 255
  · subst h; rfl
  rw [if_neg h, if_neg (show ¬ e = 2 ^ 8 - 1 from h)]
  by_cases h0 : e = 0
  · rw [if_pos h0, if_pos h0]
    refine congrArg Real.toEReal ?_
    simp only [Nat.cast_zero, mul_zero, zero_mul]
  · rw [if_neg h0, if_neg h0]
    refine congrArg Real.toEReal ?_
    have e1 : ((e : ℤ) - (2 ^ (8 - 1) - 1) - (23 : ℕ) : ℤ) = (e : ℤ) - 150 := by norm_num; ring
    rw [e1]
    simp only [Bool.false_eq_true, if_false, one_mul, Nat.add_zero, Nat.cast_pow, Nat.cast_ofNat]

/-- A field from 1 to 254 denotes the power of two it is biased by. -/
theorem pw_eq (e : ℕ) (h1 : 1 ≤ e) (h2 : e ≤ 254) : pw e = (((2 : ℝ) ^ ((e : ℤ) - 127) : ℝ) : EReal) := by
  obtain ⟨a, b, d⟩ := fields ⟨e, by omega⟩
  refine (ieee_field _ e a b d).trans ?_
  rw [if_neg (by omega), if_neg (by omega)]
  refine congrArg Real.toEReal ?_
  rw [← zpow_natCast, ← zpow_add₀ (by norm_num)]
  refine congrArg (fun z : ℤ => (2 : ℝ) ^ z) ?_
  omega

/-- The last exponent field stands for infinity. -/
theorem pw_top : pw 255 = ⊤ := by
  obtain ⟨a, b, d⟩ := fields ⟨255, by omega⟩
  exact (ieee_field _ 255 a b d).trans (if_pos rfl)

/-- A greater exponent field is a greater power. -/
theorem pw_lt (a b : ℕ) (h1 : 1 ≤ a) (hab : a < b) (hb : b ≤ 255) : pw a < pw b := by
  rcases Nat.lt_or_ge b 255 with h | h
  · rw [pw_eq a h1 (by omega), pw_eq b (by omega) (by omega), EReal.coe_lt_coe_iff]
    exact zpow_lt_zpow_right₀ (by norm_num) (by omega)
  · obtain rfl : b = 255 := by omega
    rw [pw_top, pw_eq a h1 (by omega)]; exact EReal.coe_lt_top _

/-- A field at least as great is a power at least as great. -/
theorem pw_le (a b : ℕ) (h1 : 1 ≤ a) (hab : a ≤ b) (hb : b ≤ 255) : pw a ≤ pw b := by
  rcases hab.lt_or_eq with h | rfl
  · exact (pw_lt a b h1 h hb).le
  · exact le_rfl

/-- One comparison of the search: the field moves up by `s` if the value is at least the power there. -/
def step (v : EReal) (s e : ℕ) : ℕ := if pw (e + s) ≤ v then e + s else e

/-- What the search knows: the value is at least the field's power (or the field is zero), below the power `s` fields up. -/
def Bracket (v : EReal) (s e : ℕ) : Prop := (e = 0 ∨ pw e ≤ v) ∧ (256 ≤ e + s ∨ v < pw (e + s)) ∧ e + s ≤ 256

/-- A step of the search halves the bracket. -/
theorem step_bracket (v : EReal) (s e : ℕ) (h : Bracket v (2 * s) e) : Bracket v s (step v s e) := by
  obtain ⟨h1, h2, h3⟩ := h
  unfold step
  split
  · next h => exact ⟨.inr h, by rwa [show e + s + s = e + 2 * s by ring], by omega⟩
  · next h => exact ⟨h1, .inr (not_le.mp h), by omega⟩

/-- The whole search. -/
def search (v : EReal) : ℕ :=
  step v 1 (step v 2 (step v 4 (step v 8 (step v 16 (step v 32 (step v 64 (step v 128 0)))))))

/-- The search ends with a bracket of one. -/
theorem search_bracket (v : EReal) : Bracket v 1 (search v) := by
  unfold search
  exact step_bracket _ _ _ (step_bracket _ _ _ (step_bracket _ _ _ (step_bracket _ _ _ (step_bracket _ _ _
    (step_bracket _ _ _ (step_bracket _ _ _ (step_bracket _ _ _ ⟨.inl rfl, .inl (by omega), by omega⟩)))))))

/-- The kernel's field: 255 from the power at field 247 on. -/
def field (v : EReal) : ℕ := if pw 247 ≤ v then 255 else search v

/-- The scale the kernel builds from the field. -/
def scale (v : EReal) : EReal := if field v = 0 ∨ field v = 255 then pw 127 else pw (field v + 1)

/-- The inverse scale the kernel builds from the field. -/
def inv (v : EReal) : EReal := if field v = 0 ∨ field v = 255 then pw 127 else pw (253 - field v)

/-- The field 127 stands for one. -/
theorem pw_one : pw 127 = 1 := by rw [pw_eq 127 (by omega) (by omega)]; norm_num

/-- What the field is: 0 below the power at field 1, 255 from that at field 247 on, and otherwise the field whose power is the
    last one not above the value. -/
theorem field_cases (v : EReal) :
    ((v < pw 1 ∨ pw 247 ≤ v) ∧ (field v = 0 ∨ field v = 255))
    ∨ (¬ (v < pw 1 ∨ pw 247 ≤ v) ∧ 1 ≤ field v ∧ field v ≤ 246 ∧ pw (field v) ≤ v ∧ v < pw (field v + 1)) := by
  unfold field
  split
  · next h => exact .inl ⟨.inr h, .inr rfl⟩
  · next h =>
    have hv := not_le.mp h
    obtain ⟨h1, h2, h3⟩ := search_bracket v
    rcases Nat.eq_zero_or_pos (search v) with e0 | hp
    · rcases h2 with h2 | h2
      · omega
      · rw [e0] at h2; exact .inl ⟨.inl h2, .inl e0⟩
    · have hge : pw (search v) ≤ v := h1.resolve_left (by omega)
      have hle : search v ≤ 246 := by
        by_contra hc
        exact absurd (lt_of_le_of_lt ((pw_le 247 _ (by omega) (by omega) (by omega)).trans hge) hv) (lt_irrefl _)
      have hlt : v < pw (search v + 1) := h2.resolve_left (by omega)
      refine .inr ⟨?_, hp, hle, hge, hlt⟩
      rintro (h | h)
      · exact absurd (lt_of_le_of_lt ((pw_le 1 _ (by omega) hp (by omega)).trans hge) h) (lt_irrefl _)
      · exact absurd (lt_of_le_of_lt h hv) (lt_irrefl _)

/-- The kernel's scale is 1 outside the range, and otherwise the least of the powers (fields 2 to 247) above the value. -/
theorem scale_eq (v A : EReal) (hA : ∀ b, b ≤ A ↔ ∀ k : ℕ, 2 ≤ k → k ≤ 247 → v < pw k → b ≤ pw k) :
    scale v = if v < pw 1 ∨ pw 247 ≤ v then 1 else A := by
  unfold scale
  rcases field_cases v with ⟨h, hf⟩ | ⟨h, h1, h2, h3, h4⟩
  · rw [if_pos hf, if_pos h, pw_one]
  · rw [if_neg (by omega), if_neg h]
    refine le_antisymm ((hA _).mpr fun k hk1 hk2 hk => ?_) ((hA A).mp le_rfl _ (by omega) (by omega) h4)
    refine pw_le _ _ (by omega) ?_ (by omega)
    by_contra hc
    exact absurd (lt_of_le_of_lt ((pw_le k _ (by omega) (by omega) (by omega)).trans h3) hk) (lt_irrefl _)

/-- The kernel's inverse scale is the quotient of 1 by its scale. -/
theorem inv_eq (v : EReal) : inv v = Ideal.div 1 (scale v) := by
  unfold inv scale
  rcases field_cases v with ⟨h, hf⟩ | ⟨h, h1, h2, h3, h4⟩
  · rw [if_pos hf, if_pos hf, pw_one, Ideal.div, if_neg one_ne_zero, inv_one, one_mul]
  · rw [if_neg (by omega), if_neg (by omega), pw_eq _ (by omega) (by omega), pw_eq _ (by omega) (by omega), Ideal.div, if_neg, one_mul, ← EReal.coe_inv, ← zpow_neg]
    · refine congrArg (fun z : ℤ => (((2 : ℝ) ^ z : ℝ) : EReal)) ?_; omega
    · exact_mod_cast (zpow_pos (by norm_num : (0:ℝ) < 2) _).ne'

end Cert.Proof.Scale

end
-- ==== Proof.Spec.lean ====
/-
  What the program and the reference both compute, as plain functions of the arguments over the extended reals, and the
  sums' rearrangements that join the two ways of computing it.
-/
module

public import proofs.«01_k».proof.Proof.Scale
public import Idealize.ShloMosaic.Lib.IdealHost
public import Idealize.ShloMosaic.Lib.Pointwise

@[expose] public section

noncomputable section

namespace Cert.Proof.Spec

open Idealize.ShloMosaic Idealize.ShloMosaic.TcCoe
open scoped BigOperators

/-- The table's entry of a 4-bit code. -/
def tab : ℕ → EReal
  | 0 => Ideal.ofBits .f32 0xBF800000#32
  | 1 => Ideal.ofBits .f32 0xBF3239B1#32
  | 2 => Ideal.ofBits .f32 0xBF066B30#32
  | 3 => Ideal.ofBits .f32 0xBECA32A0#32
  | 4 => Ideal.ofBits .f32 0xBE91A24D#32
  | 5 => Ideal.ofBits .f32 0xBE3D353F#32
  | 6 => Ideal.ofBits .f32 0xBDBA7871#32
  | 7 => 0
  | 8 => Ideal.ofBits .f32 0x3DA2FAFF#32
  | 9 => Ideal.ofBits .f32 0x3E24CAE3#32
  | 10 => Ideal.ofBits .f32 0x3E7C04DD#32
  | 11 => Ideal.ofBits .f32 0x3EAD033A#32
  | 12 => Ideal.ofBits .f32 0x3EE1A4B8#32
  | 13 => Ideal.ofBits .f32 0x3F1007AB#32
  | 14 => Ideal.ofBits .f32 0x3F3913B3#32
  | _ => 1

/-- The table's entry of the 4-bit code at bit `4 * q` of a byte. -/
def dq (b : BitVec 8) (q : ℕ) : EReal := tab (b.toNat / 2 ^ (4 * q) % 16)

/-- A matrix at a row and a column. -/
def at2 {M N : ℕ} (f : (⟨2, ![M, N]⟩ : Shape).Idx → EReal) (i : Fin M) (j : Fin N) : EReal := f (ix2 i j)

/-- The arguments by coordinates: activations, packed weights, absolute maxima, low-rank factors. -/
structure In where
  X : Fin 1536 → Fin 3584 → EReal
  W : Fin 1792 → Fin 18944 → BitVec 8
  A : Fin 56 → Fin 18944 → EReal
  LA : Fin 3584 → Fin 16 → EReal
  LB : Fin 16 → Fin 18944 → EReal

namespace In

variable (I : In)

/-- A weight: the table's entry of its code, times its group's absolute maximum. -/
def wt (k : Fin 3584) (o : Fin 18944) : EReal := dq (I.W ⟨k.val / 2, by omega⟩ o) (k.val % 2) * I.A ⟨k.val / 64, by omega⟩ o

/-- The low-rank factor's 2. -/
def two : EReal := Ideal.ofBits .f32 0x40000000#32

/-- The product. -/
def y (s : Fin 1536) (o : Fin 18944) : EReal :=
  ∑ k, I.X s k * I.wt k o + (∑ r, (∑ k, I.X s k * I.LA k r) * I.LB r o) * two

/-- A row's greatest absolute value. -/
def amax (s : Fin 1536) : EReal := Finset.univ.fold max ⊥ fun o => max (I.y s o) (-I.y s o)

/-- That over 448. -/
def v (s : Fin 1536) : EReal := I.amax s * Ideal.ofBits .f32 0x3B124925#32

/-- A row's scale. -/
def scale (s : Fin 1536) : EReal := Scale.scale (I.v s)

/-- A code. -/
def code (s : Fin 1536) (o : Fin 18944) : EReal :=
  min (Ideal.ofBits .f32 0x43E00000#32) (max (Ideal.ofBits .f32 0xC3E00000#32) (I.y s o * Ideal.div 1 (I.scale s)))

end In

/-! ## The reference's tree of selects -/

theorem bit0 : ∀ (b : BitVec 8) (q : Fin 2), IntOp.cmpi .ne (IntOp.andi (BitVec.setWidth 32 b) (BitVec.ofNat 32 (1 * 16 ^ q.val))) 0#32 = BitVec.ofBool (b.getLsbD (4 * q.val)) := by decide +kernel
/-- The test of a nibble's second bit. -/
theorem bit1 : ∀ (b : BitVec 8) (q : Fin 2), IntOp.cmpi .ne (IntOp.andi (BitVec.setWidth 32 b) (BitVec.ofNat 32 (2 * 16 ^ q.val))) 0#32 = BitVec.ofBool (b.getLsbD (4 * q.val + 1)) := by decide +kernel
/-- The test of a nibble's third bit. -/
theorem bit2 : ∀ (b : BitVec 8) (q : Fin 2), IntOp.cmpi .ne (IntOp.andi (BitVec.setWidth 32 b) (BitVec.ofNat 32 (4 * 16 ^ q.val))) 0#32 = BitVec.ofBool (b.getLsbD (4 * q.val + 2)) := by decide +kernel
/-- The test of a nibble's fourth bit. -/
theorem bit3 : ∀ (b : BitVec 8) (q : Fin 2), IntOp.cmpi .ne (IntOp.andi (BitVec.setWidth 32 b) (BitVec.ofNat 32 (8 * 16 ^ q.val))) 0#32 = BitVec.ofBool (b.getLsbD (4 * q.val + 3)) := by decide +kernel

/-- A nibble from its four bits. -/
theorem bits : ∀ (b : BitVec 8) (q : Fin 2), b.toNat / 2 ^ (4 * q.val) % 16
    = 8 * (b.getLsbD (4 * q.val + 3)).toNat + 4 * (b.getLsbD (4 * q.val + 2)).toNat + 2 * (b.getLsbD (4 * q.val + 1)).toNat + (b.getLsbD (4 * q.val)).toNat := by decide +kernel

/-- The tree of selects over the code's four bits. -/
def tree (c3 c2 c1 c0 : BitVec 1) : EReal :=
  Scalar.select c3
    (Scalar.select c2 (Scalar.select c1 (Scalar.select c0 (tab 15) (tab 14)) (Scalar.select c0 (tab 13) (tab 12)))
      (Scalar.select c1 (Scalar.select c0 (tab 11) (tab 10)) (Scalar.select c0 (tab 9) (tab 8))))
    (Scalar.select c2 (Scalar.select c1 (Scalar.select c0 (tab 7) (tab 6)) (Scalar.select c0 (tab 5) (tab 4)))
      (Scalar.select c1 (Scalar.select c0 (tab 3) (tab 2)) (Scalar.select c0 (tab 1) (tab 0))))

/-- The tree of choices gives the table's entry. -/
theorem tree_eq (b3 b2 b1 b0 : Bool) : tree (BitVec.ofBool b3) (BitVec.ofBool b2) (BitVec.ofBool b1) (BitVec.ofBool b0)
    = tab (8 * b3.toNat + 4 * b2.toNat + 2 * b1.toNat + b0.toNat) := by
  cases b3 <;> cases b2 <;> cases b1 <;> cases b0 <;> rfl

/-- The dequantised nibble is the table's entry at its number. -/
theorem dq_eq (b : BitVec 8) (q : Fin 2) : dq b q.val
    = tree (IntOp.cmpi .ne (IntOp.andi (BitVec.setWidth 32 b) (BitVec.ofNat 32 (8 * 16 ^ q.val))) 0#32)
      (IntOp.cmpi .ne (IntOp.andi (BitVec.setWidth 32 b) (BitVec.ofNat 32 (4 * 16 ^ q.val))) 0#32)
      (IntOp.cmpi .ne (IntOp.andi (BitVec.setWidth 32 b) (BitVec.ofNat 32 (2 * 16 ^ q.val))) 0#32)
      (IntOp.cmpi .ne (IntOp.andi (BitVec.setWidth 32 b) (BitVec.ofNat 32 (1 * 16 ^ q.val))) 0#32) := by
  rw [bit0, bit1, bit2, bit3, tree_eq, ← bits]; rfl

/-! ## Sums -/

/-- A sum over the columns is the sum over the even ones plus the sum over the odd ones. -/
theorem sum_even_odd (f : Fin 3584 → EReal) :
    ∑ i : Fin 1792, f ⟨i.val * 2, by omega⟩ + ∑ i : Fin 1792, f ⟨i.val * 2 + 1, by omega⟩ = ∑ k, f k := by
  rw [← (finProdFinEquiv (m := 1792) (n := 2)).sum_comp f, Fintype.sum_prod_type, ← Finset.sum_add_distrib]
  refine Finset.sum_congr rfl fun i _ => ?_
  rw [Fin.sum_univ_two]
  refine congrArg₂ (fun a b => f a + f b) (Fin.ext ?_) (Fin.ext ?_)
  · show i.val * 2 = 0 + 2 * i.val; omega
  · show i.val * 2 + 1 = 1 + 2 * i.val; omega

/-- A sum over the columns in another order. -/
theorem sum_perm (p : ℕ → ℕ) (hp : ∀ k < 3584, p k < 3584) (g : ℕ → ℕ) (hg : ∀ k < 3584, g (p k) = k) (f : Fin 3584 → EReal) :
    ∑ k : Fin 3584, f ⟨p k.val, hp _ k.isLt⟩ = ∑ k, f k := by
  refine Function.Bijective.sum_comp (e := fun k : Fin 3584 => (⟨p k.val, hp _ k.isLt⟩ : Fin 3584)) ?_ f
  refine Finite.injective_iff_bijective.1 fun a b hab => Fin.ext ?_
  have h : p a.val = p b.val := congrArg Fin.val hab
  rw [← hg _ a.isLt, ← hg _ b.isLt, h]

/-- The adapter's factor is two. -/
theorem two_eq : In.two = ((2 : ℝ) : EReal) := by
  unfold In.two
  simp [Ideal.ofBits, Ideal.ieee, -EReal.coe_mul]; norm_num

/-- The low-rank sum with its 2 on the first factors' products. -/
theorem sum_two (h b : Fin 16 → EReal) : ∑ r, h r * In.two * b r = (∑ r, h r * b r) * In.two := by
  have hd : ∀ a c : EReal, (a + c) * In.two = a * In.two + c * In.two := fun a c => by
    rw [mul_comm, EReal.left_distrib_of_nonneg_of_ne_top (by rw [two_eq]; exact_mod_cast (by norm_num : (0:ℝ) ≤ 2)) (by rw [two_eq]; exact EReal.coe_ne_top _),
      mul_comm, mul_comm In.two c]
  have key : ∀ s : Finset (Fin 16), ∑ r ∈ s, h r * In.two * b r = (∑ r ∈ s, h r * b r) * In.two := fun s => by
    induction s using Finset.induction_on with
    | empty => simp
    | insert a s ha ih => rw [Finset.sum_insert ha, Finset.sum_insert ha, hd, ih, mul_right_comm]
  exact key _

end Cert.Proof.Spec

end
-- ==== Proof.BlockY.lean ====
module

public import proofs.«01_k».proof.Proof.State
public import proofs.«01_k».proof.Proof.Spec
public import Idealize.ShloMosaic.Lib.Pointwise
public import Idealize.ShloMosaic.Lib.IdealHost

@[expose] public section

set_option pp.maxSteps 3000

noncomputable section

namespace Cert.Proof.BlockY

open Cert.KernelIdeal Cert.KernelIdeal.Gen
open Idealize.ShloMosaic Idealize.ShloMosaic.TcCoe Idealize.ShloMosaic.Tactic
open Cert.Proof.Tiles Cert.Proof.Dequant Cert.Proof.RunScales Cert.Proof.State Cert.Proof.Body
open scoped BigOperators

/-! The kernel's blocks of the product are the blocks of the plain product. -/

/-- The row of the whole array at row `a` of row block `p`, and the column at column `b` of column block `j`. -/
abbrev rowOf (p : Fin 4) (a : Fin 384) : Fin 1536 := ⟨384 * p.val + a.val, by omega⟩
abbrev colOf (j : Fin 37) (b : Fin 512) : Fin 18944 := ⟨512 * j.val + b.val, by omega⟩

/-- The blocks are those of the arrays `I`. -/
structure Has (o : Args) (I : Spec.In) : Prop where
  X : ∀ p a k, o.X p.val (ix2 a k) = I.X (rowOf p a) k
  W : ∀ (j : Fin 37) k b, o.W j.val (ix2 k b) = I.W k (colOf j b)
  A : ∀ (j : Fin 37) k b, o.A j.val (ix2 k b) = I.A k (colOf j b)
  LA : ∀ k r, o.LA (ix2 k r) = I.LA k r
  LB : ∀ (j : Fin 37) r b, o.LB j.val (ix2 r b) = I.LB r (colOf j b)

/-- The table buffer's row is the table's entry. -/
theorem table_apply (k : Fin 16) (l : Fin 128) : (table : Vec Ideal S16x128 .bf16) (ix2 k l) = Spec.tab k.val := by
  pointwise [table, k0_pay1, k0_pay8, k0_pay9]
  fin_cases k <;> rfl

/-- The permutation keeps to the row. -/
theorem perm_lt' (q : ℕ) (h : q < 3584) : perm q < 3584 := by
  unfold perm; omega

/-- The column of a permuted row in which column `k` stands. -/
def back (k : ℕ) : ℕ := k - k % 64 + 16 * (k % 4) + 2 * (k % 64 / 8) + k / 4 % 2

/-- `back` undoes the permutation. -/
theorem back_perm : ∀ q : Fin 3584, back (perm q.val) = q.val := by decide +kernel

/-- The packed row that a permuted column meets. -/
theorem perm_half : ∀ q : Fin 3584, (32 * (q.val / 64) + (4 * (q.val % 16 / 2) + 2 * (q.val % 16 % 2) + q.val % 64 / 16 / 2)) % 1792 = perm q.val / 2 := by decide +kernel
/-- The scale block that a permuted column meets. -/
theorem perm_group : ∀ q : Fin 3584, (8 * (q.val / 512) + q.val / 64 % 8) % 56 = perm q.val / 64 := by decide +kernel
/-- The nibble that a permuted column meets. -/
theorem perm_parity : ∀ q : Fin 3584, q.val % 64 / 16 % 2 = perm q.val % 2 := by decide +kernel

variable {o : Args} {I : Spec.In} (h : Has o I)
include h

theorem wts_apply (j : Fin 37) (q : Fin 3584) (b : Fin 512) :
    o.wts j.val (ix2 q b) = I.wt ⟨perm q.val, perm_lt' _ q.isLt⟩ (colOf j b) := by
  have hq : q.val < 3584 := q.isLt
  have hb : b.val < 512 := b.isLt
  unfold Args.wts weights
  refine (dqTile_apply (table : Vec Ideal S16x128 .bf16) _ _ ⟨q.val / 64 % 8, by omega⟩ _ ⟨q.val % 64 / 16, by omega⟩ ⟨q.val % 16, by omega⟩ ⟨b.val % 128, by omega⟩).trans ?_
  rw [table_apply]
  unfold Spec.In.wt Spec.dq
  have eW : ∀ h1 h2, o.W j.val (ix2 ⟨(32 * (q.val / 64) + (4 * (q.val % 16 / 2) + 2 * (q.val % 16 % 2) + q.val % 64 / 16 / 2)) % 1792, h1⟩ ⟨(128 * (b.val / 128) + b.val % 128) % 512, h2⟩)
      = I.W ⟨perm q.val / 2, by have := perm_lt' _ hq; omega⟩ (colOf j b) := fun h1 h2 =>
    (congrArg (o.W j.val) (congrArg₂ ix2 (Fin.ext (perm_half q)) (Fin.ext (by show (128 * (b.val / 128) + b.val % 128) % 512 = b.val; omega)))).trans (h.W j _ b)
  have eA : ∀ h1 h2, o.A j.val (ix2 ⟨(8 * (q.val / 512) + q.val / 64 % 8) % 56, h1⟩ ⟨(128 * (b.val / 128) + b.val % 128) % 512, h2⟩)
      = I.A ⟨perm q.val / 64, by have := perm_lt' _ hq; omega⟩ (colOf j b) := fun h1 h2 =>
    (congrArg (o.A j.val) (congrArg₂ ix2 (Fin.ext (perm_group q)) (Fin.ext (by show (128 * (b.val / 128) + b.val % 128) % 512 = b.val; omega)))).trans (h.A j _ b)
  have e2 : q.val % 64 / 16 % 2 = perm q.val % 2 := perm_parity q
  refine congrArg₂ (fun x y : EReal => x * y) ?_ (eA _ _)
  show Spec.tab ((o.W j.val (ix2 ⟨(32 * (q.val / 64) + (4 * (q.val % 16 / 2) + 2 * (q.val % 16 % 2) + q.val % 64 / 16 / 2)) % 1792, _⟩ ⟨(128 * (b.val / 128) + b.val % 128) % 512, _⟩)).toNat / 2 ^ (4 * (q.val % 64 / 16 % 2)) % 16) = _
  refine (congrArg (fun w : BitVec 8 => Spec.tab (w.toNat / 2 ^ (4 * (q.val % 64 / 16 % 2)) % 16)) (eW _ _)).trans ?_
  rw [e2]

omit h in
theorem pay72_apply (x : Vec Ideal S384x3584 .bf16) (la : Vec Ideal S3584x16 .bf16) (a : Fin 384) (r : Fin 16) :
    k0_pay72 x la (ix2 a r) = (∑ k : Fin 3584, Spec.at2 x a k * Spec.at2 la k r) * Spec.In.two := by
  pointwise [k0_pay72]
  try rfl

omit h in
theorem pay2101_apply (x : Vec Ideal S384x3584 .bf16) (w : Vec Ideal S3584x512 .bf16) (g : Vec Ideal S384x16 .bf16) (lb : Vec Ideal S16x512 .bf16) (a : Fin 384) (b : Fin 512) :
    k0_pay2101 x w g lb (ix2 a b) = (∑ k : Fin 3584, Spec.at2 x a k * Spec.at2 w k b) + ∑ r : Fin 16, Spec.at2 g a r * Spec.at2 lb r b := by
  pointwise [k0_pay2101]
  try rfl

/-- A block of the product at a row and a column. -/
theorem prod_apply (p : Fin 4) (j : Fin 37) (a : Fin 384) (b : Fin 512) :
    k0_pay2101 (o.xp p.val) (o.wts j.val) (o.low p.val) (o.LB j.val) (ix2 a b) = I.y (rowOf p a) (colOf j b) := by
  rw [pay2101_apply]
  unfold Spec.In.y
  refine congrArg₂ (fun x y : EReal => x + y) ?_ ?_
  · rw [← Spec.sum_perm perm perm_lt' back (fun k hk => back_perm ⟨k, hk⟩) fun k => I.X (rowOf p a) k * I.wt k (colOf j b)]
    refine Finset.sum_congr rfl fun q _ => congrArg₂ (fun x y : EReal => x * y) ?_ (wts_apply h j q b)
    exact h.X p a ⟨perm q.val, perm_lt' _ q.isLt⟩
  · rw [← Spec.sum_two]
    refine Finset.sum_congr rfl fun r _ => congrArg₂ (fun x y : EReal => x * y) ?_ (h.LB j r b)
    refine (pay72_apply _ _ a r).trans (congrArg (fun x : EReal => x * Spec.In.two) (Finset.sum_congr rfl fun k _ => ?_))
    exact congrArg₂ (fun x y : EReal => x * y) (h.X p a k) (h.LA k r)

/-- The kernel's product block at an entry is the product by coordinates. -/
theorem y_apply (p : Fin 4) (j : Fin 37) (a : Fin 384) (b : Fin 512) : o.y p.val j.val (ix2 a b) = I.y (rowOf p a) (colOf j b) := by
  rw [← prod_apply h]
  unfold Args.y
  pointwise [k0_pay2102]
  try rfl

/-- The float32 row kept for the quantiser holds the same product. -/
theorem row_apply (p : Fin 4) (j : Fin 37) (a : Fin 384) (b : Fin 512) : o.row p.val j.val (ix2 a b) = I.y (rowOf p a) (colOf j b) := by
  rw [← prod_apply h]
  unfold Args.row
  pointwise [k0_pay2103]
  try rfl

end Cert.Proof.BlockY

end
-- ==== Proof.Search.lean ====
module

public import proofs.«01_k».proof.Proof.RunScales
public import proofs.«01_k».proof.Proof.Scale
public import Idealize.ShloMosaic.Lib.Pointwise
public import Idealize.ShloMosaic.Lib.IdealHost

@[expose] public section

set_option pp.maxSteps 3000

noncomputable section

namespace Cert.Proof.Search

open Cert.KernelIdeal Cert.KernelIdeal.Gen
open Idealize.ShloMosaic Idealize.ShloMosaic.TcCoe Idealize.ShloMosaic.Tactic
open Cert.Proof.RunScales

/-! The kernel's search for the exponent field, over vectors, is the search over numbers. -/

/-- One comparison of the search, over a vector of values and of fields. -/
def stepV (v : FVec Ideal S384x128 .f32) (s : BitVec 32) (e : IVec S384x128 32) : IVec S384x128 32 :=
  select (cmpf .oge v (bitcastToFloat .f32 (shli (addi e (broadcast S384x128 s)) (broadcast S384x128 23#32)))) (addi e (broadcast S384x128 s)) e

/-- A step of the vector search at an entry. -/
theorem stepV_apply (v : FVec Ideal S384x128 .f32) (s n : ℕ) (e : IVec S384x128 32) (r : Fin 384) (l : Fin 128) (he : e (ix2 r l) = BitVec.ofNat 32 n) :
    stepV v (BitVec.ofNat 32 s) e (ix2 r l) = BitVec.ofNat 32 (Scale.step (v (ix2 r l)) s n) := by
  have ha : IntOp.addi (BitVec.ofNat 32 n) (BitVec.ofNat 32 s) = BitVec.ofNat 32 (n + s) := (BitVec.ofNat_add ..).symm
  unfold stepV Scale.step
  pointwise
  rw [he, ha]
  by_cases h : Scale.pw (n + s) ≤ v (ix2 r l)
  · rw [if_pos h]
    exact if_pos h
  · rw [if_neg h]
    exact if_neg h

/-- The greatest of a row's maxima, over 448. -/
def top (a : Vec Ideal S384x128 .f32) (r : Fin 384) : EReal :=
  (Finset.univ.fold max (Ideal.ofBits .f32 0xFF800000#32) fun l : Fin 128 => a (ix2 r l)) * Ideal.ofBits .f32 0x3B124925#32

/-- The row's maximum, in every lane. -/
theorem top_apply (a : Vec Ideal S384x128 .f32) (r : Fin 384) (l : Fin 128) : k0_pay10 a (ix2 r l) = top a r := by
  unfold top
  pointwise [k0_pay10]
  try rfl

/-- The first half of the search, step by step. -/
theorem pay11_eq (a : Vec Ideal S384x128 .f32) : k0_pay11 a
    = stepV (k0_pay10 a) 8#32 (stepV (k0_pay10 a) 16#32 (stepV (k0_pay10 a) 32#32 (stepV (k0_pay10 a) 64#32 (stepV (k0_pay10 a) 128#32 (broadcast S384x128 0#32))))) := rfl

/-- The second half of the search, step by step. -/
theorem pay13_eq (v : FVec Ideal S384x128 .f32) (e : IVec S384x128 32) : k0_pay13 v e k0_pay12
    = select (cmpf .oge v (broadcast S384x128 (Scalar.ofBits (F := Ideal) .f32 0x7B800000#32))) (broadcast S384x128 255#32)
      (stepV v 1#32 (stepV v 2#32 (stepV v 4#32 e))) := rfl

/-- The last step of the search at an entry. -/
theorem last_apply (v : FVec Ideal S384x128 .f32) (n : ℕ) (e : IVec S384x128 32) (r : Fin 384) (l : Fin 128) (he : e (ix2 r l) = BitVec.ofNat 32 n) :
    select (cmpf .oge v (broadcast S384x128 (Scalar.ofBits (F := Ideal) .f32 0x7B800000#32))) (broadcast S384x128 255#32) e (ix2 r l)
      = BitVec.ofNat 32 (if Scale.pw 247 ≤ v (ix2 r l) then 255 else n) := by
  pointwise
  rw [he]
  by_cases h : Scale.pw 247 ≤ v (ix2 r l)
  · rw [if_pos h]
    exact if_pos h
  · rw [if_neg h]
    exact if_neg h

/-- The exponent field found at an entry. -/
theorem field_apply (a : Vec Ideal S384x128 .f32) (r : Fin 384) (l : Fin 128) :
    k0_pay13 (k0_pay10 a) (k0_pay11 a) k0_pay12 (ix2 r l) = BitVec.ofNat 32 (Scale.field (top a r)) := by
  rw [pay13_eq, pay11_eq]
  have h0 := stepV_apply (k0_pay10 a) 128 0 (broadcast S384x128 0#32) r l rfl
  have h1 := stepV_apply (k0_pay10 a) 64 _ _ r l h0
  have h2 := stepV_apply (k0_pay10 a) 32 _ _ r l h1
  have h3 := stepV_apply (k0_pay10 a) 16 _ _ r l h2
  have h4 := stepV_apply (k0_pay10 a) 8 _ _ r l h3
  have h5 := stepV_apply (k0_pay10 a) 4 _ _ r l h4
  have h6 := stepV_apply (k0_pay10 a) 2 _ _ r l h5
  have h7 := stepV_apply (k0_pay10 a) 1 _ _ r l h6
  refine (last_apply (k0_pay10 a) _ _ r l h7).trans ?_
  rw [top_apply]
  rfl

/-- An exponent field is at most 255. -/
theorem field_lt (v : EReal) : Scale.field v ≤ 255 := by
  rcases Scale.field_cases v with ⟨_, h⟩ | ⟨_, _, h, _⟩ <;> omega

/-- The word that says whether the field is 0 or 255. -/
theorem word_eq (f : Fin 256) : IntOp.ori (IntOp.cmpi .eq (BitVec.ofNat 32 f.val) 0#32) (IntOp.cmpi .eq (BitVec.ofNat 32 f.val) 255#32) = BitVec.ofBool (decide (f.val = 0 ∨ f.val = 255)) := by
  revert f; decide +kernel

/-- That word at an entry. -/
theorem special_apply (a : Vec Ideal S384x128 .f32) (r : Fin 384) (l : Fin 128) :
    k0_pay14 (k0_pay10 a) (k0_pay11 a) k0_pay12 (ix2 r l) = BitVec.ofBool (decide (Scale.field (top a r) = 0 ∨ Scale.field (top a r) = 255)) := by
  refine (show _ = IntOp.ori (IntOp.cmpi .eq (k0_pay13 (k0_pay10 a) (k0_pay11 a) k0_pay12 (ix2 r l)) 0#32) (IntOp.cmpi .eq (k0_pay13 (k0_pay10 a) (k0_pay11 a) k0_pay12 (ix2 r l)) 255#32) from rfl).trans ?_
  rw [field_apply]
  exact word_eq ⟨Scale.field (top a r), Nat.lt_succ_of_le (field_lt _)⟩

/-- A row's scale. -/
theorem scaleV_apply (a : Vec Ideal S384x128 .f32) (r : Fin 384) (l : Fin 128) : scaleV a (ix2 r l) = Scale.scale (top a r) := by
  unfold scaleV
  refine (show _ = Ideal.ofBits .f32 (IntOp.shli .vector (Scalar.select (k0_pay14 (k0_pay10 a) (k0_pay11 a) k0_pay12 (ix2 r l)) 127#32
    (IntOp.addi (k0_pay13 (k0_pay10 a) (k0_pay11 a) k0_pay12 (ix2 r l)) 1#32)) 23#32) from rfl).trans ?_
  rw [special_apply, field_apply]
  unfold Scale.scale
  by_cases h : Scale.field (top a r) = 0 ∨ Scale.field (top a r) = 255
  · rw [if_pos h, decide_eq_true h]; rfl
  · rw [if_neg h, decide_eq_false h]
    show Ideal.ofBits .f32 (IntOp.shli .vector (IntOp.addi (BitVec.ofNat 32 (Scale.field (top a r))) (BitVec.ofNat 32 1)) 23#32) = _
    rw [show IntOp.addi (BitVec.ofNat 32 (Scale.field (top a r))) (BitVec.ofNat 32 1) = BitVec.ofNat 32 (Scale.field (top a r) + 1) from (BitVec.ofNat_add ..).symm]
    rfl

/-- The field of the inverse, as a word. -/
theorem sub_eq (f : Fin 254) : IntOp.subi 253#32 (BitVec.ofNat 32 f.val) = BitVec.ofNat 32 (253 - f.val) := by
  revert f; decide +kernel

/-- A row's inverse scale. -/
theorem invV_apply (a : Vec Ideal S384x128 .f32) (r : Fin 384) (l : Fin 128) : invV a (ix2 r l) = Ideal.div 1 (Scale.scale (top a r)) := by
  rw [← Scale.inv_eq]
  unfold invV
  refine (show _ = Ideal.ofBits .f32 (IntOp.shli .vector (Scalar.select (k0_pay14 (k0_pay10 a) (k0_pay11 a) k0_pay12 (ix2 r l)) 127#32
    (IntOp.subi 253#32 (k0_pay13 (k0_pay10 a) (k0_pay11 a) k0_pay12 (ix2 r l)))) 23#32) from rfl).trans ?_
  rw [special_apply, field_apply]
  unfold Scale.inv
  by_cases h : Scale.field (top a r) = 0 ∨ Scale.field (top a r) = 255
  · rw [if_pos h, decide_eq_true h]; rfl
  · rw [if_neg h, decide_eq_false h]
    have hf : Scale.field (top a r) < 254 := by
      rcases Scale.field_cases (top a r) with ⟨_, h'⟩ | ⟨_, _, h', _⟩
      · exact absurd h' h
      · omega
    show Ideal.ofBits .f32 (IntOp.shli .vector (IntOp.subi 253#32 (BitVec.ofNat 32 (Scale.field (top a r)))) 23#32) = _
    rw [sub_eq ⟨_, hf⟩]
    rfl

end Cert.Proof.Search

end
-- ==== Proof.BlockScale.lean ====
module

public import proofs.«01_k».proof.Proof.BlockY
public import proofs.«01_k».proof.Proof.Search

@[expose] public section

set_option pp.maxSteps 3000

noncomputable section

namespace Cert.Proof.BlockScale

open Cert.KernelIdeal Cert.KernelIdeal.Gen
open Idealize.ShloMosaic Idealize.ShloMosaic.TcCoe Idealize.ShloMosaic.Tactic
open Cert.Proof.Tiles Cert.Proof.Dequant Cert.Proof.RunScales Cert.Proof.State Cert.Proof.Body Cert.Proof.BlockY

/-! The kernel's maxima, scales and codes are those of the plain product. -/

/-- An absolute value. -/
def ab (x : EReal) : EReal := max x (-x)

/-- An absolute value is at least zero. -/
theorem ab_nonneg (x : EReal) : 0 ≤ ab x := by
  rcases le_total 0 x with h | h
  · exact le_max_of_le_left h
  · exact le_max_of_le_right (by simpa using EReal.neg_le_neg_iff.2 h)

/-- The running maximum of a step at an entry: the old one and the four absolute values of its lane. -/
theorem pay2104_apply (x : Vec Ideal S384x3584 .bf16) (w : Vec Ideal S3584x512 .bf16) (g : Vec Ideal S384x16 .bf16) (lb : Vec Ideal S16x512 .bf16) (u : Vec Ideal S384x128 .f32)
    (a : Fin 384) (l : Fin 128) (y : Fin 512 → EReal) (hy : ∀ b, k0_pay2101 x w g lb (ix2 a b) = y b) :
    k0_pay7 (k0_pay2104 x w g lb u) (ix2 a l)
      = max (max (max (max (u (ix2 a l)) (ab (y ⟨l.val, by omega⟩))) (ab (y ⟨128 + l.val, by omega⟩))) (ab (y ⟨256 + l.val, by omega⟩))) (ab (y ⟨384 + l.val, by omega⟩)) := by
  simp only [← hy]
  have e0 : ∀ h, (⟨0 + l.val, h⟩ : Fin 512) = ⟨l.val, by omega⟩ := fun h => Fin.ext (Nat.zero_add _)
  pointwise [k0_pay7, k0_pay2104]
  try simp only [e0]
  try rfl

/-- The running maximum starts at zero. -/
theorem zero_apply (a : Fin 384) (l : Fin 128) : (k0_pay73 (F := Ideal)) (ix2 a l) = 0 := by
  pointwise [k0_pay73]

variable {o : Args} {I : Spec.In} (h : Has o I)
include h

/-- A block's maxima are below a bound when the earlier ones and the block's entries are. -/
theorem more_le (p : Fin 4) (j : Fin 37) (x : Vec Ideal S384x128 .f32) (a : Fin 384) (l : Fin 128) (u : EReal) :
    o.more p.val j.val x (ix2 a l) ≤ u ↔ x (ix2 a l) ≤ u ∧ ∀ k : Fin 4, ab (I.y (rowOf p a) (colOf j ⟨128 * k.val + l.val, by omega⟩)) ≤ u := by
  unfold Args.more
  rw [pay2104_apply _ _ _ _ _ a l _ (fun b => prod_apply h p j a b), max_le_iff, max_le_iff, max_le_iff, max_le_iff]
  have e : (∀ k : Fin 4, ab (I.y (rowOf p a) (colOf j ⟨128 * k.val + l.val, by omega⟩)) ≤ u)
      ↔ ab (I.y (rowOf p a) (colOf j ⟨128 * 0 + l.val, by omega⟩)) ≤ u ∧ ab (I.y (rowOf p a) (colOf j ⟨128 * 1 + l.val, by omega⟩)) ≤ u
        ∧ ab (I.y (rowOf p a) (colOf j ⟨128 * 2 + l.val, by omega⟩)) ≤ u ∧ ab (I.y (rowOf p a) (colOf j ⟨128 * 3 + l.val, by omega⟩)) ≤ u := by
    constructor
    · exact fun H => ⟨H 0, H 1, H 2, H 3⟩
    · rintro ⟨H0, H1, H2, H3⟩ k
      match k with
      | 0 => exact H0
      | 1 => exact H1
      | 2 => exact H2
      | 3 => exact H3
  rw [e]
  simp only [Nat.mul_zero, Nat.zero_add, Nat.reduceMul]
  tauto

/-- A bound holds of the running maximum exactly if it is not negative and holds of every absolute value that the lane has met. -/
theorem mx_le (p : Fin 4) (a : Fin 384) (l : Fin 128) (u : EReal) : ∀ j : ℕ, j < 37 → (o.mx p.val j (ix2 a l) ≤ u
    ↔ 0 ≤ u ∧ ∀ (i : Fin 37) (k : Fin 4), i.val ≤ j → ab (I.y (rowOf p a) (colOf i ⟨128 * k.val + l.val, by omega⟩)) ≤ u)
  | 0, hj => by
    refine (more_le h p ⟨0, hj⟩ _ a l u).trans ?_
    rw [zero_apply]
    refine and_congr Iff.rfl ⟨fun H i k hi => ?_, fun H k => H ⟨0, hj⟩ k le_rfl⟩
    obtain rfl : i = ⟨0, hj⟩ := Fin.ext (by show i.val = 0; omega)
    exact H k
  | j + 1, hj => by
    refine (more_le h p ⟨j + 1, hj⟩ _ a l u).trans ?_
    rw [mx_le p a l u j (by omega), and_assoc]
    refine and_congr Iff.rfl ⟨fun H i k hi => ?_, fun H => ⟨fun i k hi => H i k (by omega), fun k => H ⟨j + 1, hj⟩ k le_rfl⟩⟩
    rcases Nat.lt_or_ge j i.val with hlt | hge
    · obtain rfl : i = ⟨j + 1, hj⟩ := Fin.ext (by show i.val = j + 1; omega)
      exact H.2 k
    · exact H.1 i k hge

/-- A row's maxima have the row's greatest absolute value as their greatest. -/
theorem top_full (p : Fin 4) (a : Fin 384) : Search.top (o.full p.val) a = I.v (rowOf p a) := by
  unfold Search.top Spec.In.v
  refine congrArg (fun x : EReal => x * Ideal.ofBits .f32 0x3B124925#32) ?_
  have hb : Ideal.ofBits .f32 0xFF800000#32 = (⊥ : EReal) := by
    simp [Ideal.ofBits, Ideal.ieee]
  rw [hb]
  refine eq_of_forall_ge_iff fun u => ?_
  unfold Spec.In.amax
  rw [Finset.fold_max_le, Finset.fold_max_le]
  refine and_congr Iff.rfl ⟨fun H b _ => ?_, fun H l _ => (mx_le h p a l u 36 (by omega)).2 ⟨?_, fun i k _ => ?_⟩⟩
  · have hb : b.val < 18944 := b.isLt
    have := ((mx_le h p a ⟨b.val % 128, Nat.mod_lt _ (by omega)⟩ u 36 (by omega)).1 (H _ (Finset.mem_univ _))).2 ⟨b.val / 512, by omega⟩ ⟨b.val % 512 / 128, by omega⟩ (by show b.val / 512 ≤ 36; omega)
    have e : ∀ h', (⟨512 * (b.val / 512) + (128 * (b.val % 512 / 128) + b.val % 128), h'⟩ : Fin 18944) = b := fun h' => Fin.ext (by
      show 512 * (b.val / 512) + (128 * (b.val % 512 / 128) + b.val % 128) = b.val; omega)
    exact (congrArg (fun c => ab (I.y (rowOf p a) c)) (e (by omega))).symm.trans_le this
  · exact (ab_nonneg _).trans (H ⟨0, by omega⟩ (Finset.mem_univ _))
  · exact H _ (Finset.mem_univ _)

/-- The scale that the kernel takes for a row is the token's scale. -/
theorem scale_apply (p : Fin 4) (a : Fin 384) (l : Fin 128) : scaleV (o.full p.val) (ix2 a l) = I.scale (rowOf p a) := by
  rw [Search.scaleV_apply, top_full h]
  rfl

/-- The kernel's codes at an entry are the codes by coordinates. -/
theorem code_apply (p : Fin 4) (j : Fin 37) (a : Fin 384) (b : Fin 512) : o.code p.val j.val (ix2 a b) = I.code (rowOf p a) (colOf j b) := by
  refine (show _ = RunCodes.code (o.row p.val j.val (ix2 a b)) (invV (o.full p.val) (ix2 a ⟨b.val % 128, Nat.mod_lt _ (by omega)⟩)) from rfl).trans ?_
  rw [row_apply h, Search.invV_apply, top_full h]
  rfl

end Cert.Proof.BlockScale

end
-- ==== Proof.Value.lean ====
module

public import proofs.«01_k».proof.Proof.Arrays
public import proofs.«01_k».proof.Proof.BlockScale
public import Idealize.ShloMosaic.Lib.StableHlo.ReadAt

@[expose] public section

set_option pp.maxSteps 3000

noncomputable section

namespace Cert.Proof.Value

open Cert.KernelIdeal Cert.KernelIdeal.Gen
open Idealize.ShloMosaic Idealize.ShloMosaic.TcCoe Idealize.ShloMosaic.Tactic
open Idealize.SL Idealize.SL.Sem Cert.Proof.State Cert.Proof.Run Cert.Proof.BlockY Cert.Proof.Arrays

/-! The kernel's three results are the plain functions of the arguments. -/

variable (m : (ℓ : Loc nD τ sig) → Buf (Elt Ideal) ℓ) (c : Dev nD)

/-- The arguments by coordinates, of the launch's memory. -/
def argsIn : Spec.In where
  X s k := (m ((c.tc : Thread nD τ).loc main_arg0) : Vec Ideal S6x256x3584 .bf16) (ix3 ⟨s.val / 256, by omega⟩ ⟨s.val % 256, Nat.mod_lt _ (by omega)⟩ k)
  W i o := (m ((c.tc : Thread nD τ).loc main_arg1) : Vec Ideal S1792x18944 .i8) (ix2 i o)
  A i o := (m ((c.tc : Thread nD τ).loc main_arg2) : Vec Ideal S56x18944 .f32) (ix2 i o)
  LA k r := (m ((c.tc : Thread nD τ).loc main_arg3) : Vec Ideal S3584x16 .bf16) (ix2 k r)
  LB r o := (m ((c.tc : Thread nD τ).loc main_arg4) : Vec Ideal S16x18944 .bf16) (ix2 r o)

/-- The reshaped rows at an entry. -/
theorem rows_apply (s : Fin 1536) (k : Fin 3584) : (V m c main_v0 : Vec Ideal S1536x3584 .bf16) (ix2 s k) = (argsIn m c).X s k := by
  after_reads_at
  rfl

/-- The kernel's blocks are those of the arguments. -/
theorem has : Has (args m c) (argsIn m c) where
  X p a k := by
    refine Eq.trans ?_ (rows_apply m c (rowOf p a) k)
    have hp : p.val < 4 := p.isLt
    exact congrArg (fun i => (V m c main_v0 : Vec Ideal S1536x3584 .bf16) (ix2 i k)) (Fin.ext (Nat.mod_eq_of_lt (by show 384 * p.val + a.val < 1536; omega)))
  W j k b := by
    refine Eq.trans ?_ (congrFun (V_main_arg1 m c) (ix2 k (colOf j b)))
    have hj : j.val < 37 := j.isLt
    exact congrArg (fun i => (V m c main_arg1 : Vec Ideal S1792x18944 .i8) (ix2 k i)) (Fin.ext (Nat.mod_eq_of_lt (by show 512 * j.val + b.val < 18944; omega)))
  A j k b := by
    refine Eq.trans ?_ (congrFun (V_main_arg2 m c) (ix2 k (colOf j b)))
    have hj : j.val < 37 := j.isLt
    exact congrArg (fun i => (V m c main_arg2 : Vec Ideal S56x18944 .f32) (ix2 k i)) (Fin.ext (Nat.mod_eq_of_lt (by show 512 * j.val + b.val < 18944; omega)))
  LA k r := congrFun (V_main_arg3 m c) (ix2 k r)
  LB j k b := by
    refine Eq.trans ?_ (congrFun (V_main_arg4 m c) (ix2 k (colOf j b)))
    have hj : j.val < 37 := j.isLt
    exact congrArg (fun i => (V m c main_arg4 : Vec Ideal S16x18944 .bf16) (ix2 k i)) (Fin.ext (Nat.mod_eq_of_lt (by show 512 * j.val + b.val < 18944; omega)))

/-- The product. -/
def resY (I : Spec.In) : Vec Ideal S1536x18944 .bf16 := fun i => I.y ⟨(i 0).val, (i 0).isLt⟩ ⟨(i 1).val, (i 1).isLt⟩
/-- The codes. -/
def resC (I : Spec.In) : Vec Ideal S1536x18944 .fp8e4m3 := fun i => I.code ⟨(i 0).val, (i 0).isLt⟩ ⟨(i 1).val, (i 1).isLt⟩
/-- The scales, laid out in rows of 128. -/
def resS (I : Spec.In) : Vec Ideal S12x128 .f32 := fun i =>
  I.scale ⟨(i 0).val * 128 + (i 1).val, by have h0 : (i 0).val < 12 := (i 0).isLt; have h1 : (i 1).val < 128 := (i 1).isLt; omega⟩

/-- The kernel's product array. -/
theorem whole5_eq : whole5 m c = resY (argsIn m c) := by
  funext i
  have h0 : (i 0).val < 1536 := (i 0).isLt
  have h1 : (i 1).val < 18944 := (i 1).isLt
  refine (y_apply (has m c) ⟨(i 0).val / 384, by omega⟩ ⟨(i 1).val / 512, by omega⟩ ⟨(i 0).val % 384, by omega⟩ ⟨(i 1).val % 512, by omega⟩).trans ?_
  exact congrArg₂ (argsIn m c).y (Fin.ext (by show 384 * ((i 0).val / 384) + (i 0).val % 384 = (i 0).val; omega)) (Fin.ext (by show 512 * ((i 1).val / 512) + (i 1).val % 512 = (i 1).val; omega))

/-- The kernel's codes. -/
theorem whole6_eq : whole6 m c = resC (argsIn m c) := by
  funext i
  have h0 : (i 0).val < 1536 := (i 0).isLt
  have h1 : (i 1).val < 18944 := (i 1).isLt
  refine (BlockScale.code_apply (has m c) ⟨(i 0).val / 384, by omega⟩ ⟨(i 1).val / 512, by omega⟩ ⟨(i 0).val % 384, by omega⟩ ⟨(i 1).val % 512, by omega⟩).trans ?_
  exact congrArg₂ (argsIn m c).code (Fin.ext (by show 384 * ((i 0).val / 384) + (i 0).val % 384 = (i 0).val; omega)) (Fin.ext (by show 512 * ((i 1).val / 512) + (i 1).val % 512 = (i 1).val; omega))

/-- The kernel's scales. -/
theorem whole7_eq : (fun i => (args m c).scale i) = resS (argsIn m c) := by
  funext i
  have h0 : (i 0).val < 12 := (i 0).isLt
  have h1 : (i 1).val < 128 := (i 1).isLt
  refine (BlockScale.scale_apply (has m c) ⟨(i 0).val / 3, by omega⟩ ⟨(128 * ((i 0).val % 3) + (i 1).val) % 384, Nat.mod_lt _ (by omega)⟩ 0).trans ?_
  exact congrArg (argsIn m c).scale (Fin.ext (by show 384 * ((i 0).val / 3) + (128 * ((i 0).val % 3) + (i 1).val) % 384 = (i 0).val * 128 + (i 1).val; omega))

end Cert.Proof.Value

end
-- ==== Proof.RefValue.lean ====
module

public import proofs.«01_k».proof.Proof.Gen.ReferenceIdeal.Frame
public import proofs.«01_k».proof.Proof.Gen.ReferenceIdeal.Value
public import Idealize.ShloMosaic.Lib.StableHlo.ReadAt
public import Idealize.ShloMosaic.Lib.Pointwise
public import Idealize.ShloMosaic.Lib.IdealHost
public import proofs.«01_k».proof.Proof.Spec

@[expose] public section

set_option pp.maxSteps 3000

noncomputable section

namespace Cert.Proof.RefValue

open Cert.ReferenceIdeal Cert.ReferenceIdeal.Gen
open Idealize.ShloMosaic Idealize.ShloMosaic.TcCoe Idealize.ShloMosaic.Tactic

/-- The operations that dequantise the weights. -/
abbrev ops1 : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45]

/-- The operations from there to the product. -/
abbrev ops2 : List (HloOp τ sig (Elt Ideal)) := hostOps0_46.take 22

/-- The operations from there to the rows' greatest absolute values. -/
abbrev ops3 : List (HloOp τ sig (Elt Ideal)) := (hostOps0_46.drop 22).take 3

/-- The operations from there to the powers of two that are above. -/
abbrev ops4 : List (HloOp τ sig (Elt Ideal)) := hostOps0_46.drop 25 ++ hostOps0_47

/-- The operations from there to the least of them. -/
abbrev ops5 : List (HloOp τ sig (Elt Ideal)) := hostOps0_48.take 2

/-- The operations after that. -/
abbrev ops6 : List (HloOp τ sig (Elt Ideal)) := hostOps0_48.drop 2 ++ (hostOps0_49 ++ hostOps0_50)

variable (V : Valuation τ sig (Elt Ideal))

/-- The buffers after the weights are dequantised. -/
def W1 : Valuation τ sig (Elt Ideal) := StableHlo.after ops1 V
/-- The buffers after the product. -/
def W2 : Valuation τ sig (Elt Ideal) := StableHlo.after ops2 V
/-- The buffers after the rows' greatest absolute values. -/
def W3 : Valuation τ sig (Elt Ideal) := StableHlo.after ops3 V
/-- The buffers after the powers of two that are above. -/
def W4 : Valuation τ sig (Elt Ideal) := StableHlo.after ops4 V
/-- The buffers after the least of them. -/
def W5 : Valuation τ sig (Elt Ideal) := StableHlo.after ops5 V
/-- The buffers after all of it. -/
def W6 : Valuation τ sig (Elt Ideal) := StableHlo.after ops6 V

/-- The arguments by coordinates. -/
def inOf : Spec.In where
  X s k := (V main_arg0 : Vec Ideal S6x256x3584 .bf16) (ix3 ⟨s.val / 256, by omega⟩ ⟨s.val % 256, Nat.mod_lt _ (by omega)⟩ k)
  W i o := (V main_arg1 : Vec Ideal S1792x18944 .i8) (ix2 i o)
  A g o := (V main_arg2 : Vec Ideal S56x18944 .f32) (ix2 g o)
  LA k r := (V main_arg3 : Vec Ideal S3584x16 .bf16) (ix2 k r)
  LB r o := (V main_arg4 : Vec Ideal S16x18944 .bf16) (ix2 r o)

/-- The table's entry at the high nibble. -/
theorem v69_apply (i : Fin 1792) (o : Fin 18944) : (W1 V main_v69 : Vec Ideal S1792x18944 .f32) (ix2 i o) = Spec.dq ((inOf V).W i o) 1 := by
  unfold W1
  after_reads_at
  exact (Spec.dq_eq ((inOf V).W i o) 1).symm

/-- The low nibbles' weights, scaled. -/
theorem v38_apply (i : Fin 1792) (o : Fin 18944) : (W1 V main_v38 : Vec Ideal S1792x18944 .bf16) (ix2 i o)
    = Spec.dq ((inOf V).W i o) 0 * (inOf V).A ⟨i.val / 32, by omega⟩ o := by
  unfold W1
  after_reads_at
  have e : ∀ h, (⟨i.val / 32 * 32 + i.val % 32, h⟩ : Fin 1792) = i := fun h => Fin.ext (by show i.val / 32 * 32 + i.val % 32 = i.val; omega)
  simp only [e]
  exact congrArg (· * _) (Spec.dq_eq ((inOf V).W i o) 0).symm

/-- The block scales, cast. -/
theorem v0_apply (g : Fin 56) (o : Fin 18944) : (W1 V main_v0 : Vec Ideal S56x18944 .bf16) (ix2 g o) = (inOf V).A g o := by
  unfold W1
  after_reads_at
  rfl

/-- The table of powers of two. -/
theorem cst_apply (k : Fin 246) : (W1 V main_cst : Vec Ideal S246 .f32) (ix1 k) = Ideal.ofBits .f32 (lit0 k) := by
  unfold W1
  after_reads_at
  refine congrArg (fun a => Ideal.ofBits .f32 (lit0 a)) (Fin.ext ?_)
  exact Shape.rowMajor_val_one (d := ![246]) (ix1 k)

/-- An argument is kept. -/
theorem arg0_eq : W1 V main_arg0 = V main_arg0 := by unfold W1; after_reads_simp
/-- An argument is kept. -/
theorem arg3_eq : W1 V main_arg3 = V main_arg3 := by unfold W1; after_reads_simp
/-- An argument is kept. -/
theorem arg4_eq : W1 V main_arg4 = V main_arg4 := by unfold W1; after_reads_simp

/-- The product as sums over even columns, odd columns and the adapter. -/
theorem v90_apply (i : Fin 1536) (o : Fin 18944) : (W2 V main_v90 : Vec Ideal S1536x18944 .f32) (ix2 i o)
    = ∑ x : Fin 1792, (inOf V).X i ⟨x.val * 2, by omega⟩ * Spec.at2 (M := 1792) (N := 18944) (V main_v38) x o
      + ∑ x : Fin 1792, (inOf V).X i ⟨x.val * 2 + 1, by omega⟩ * (Spec.at2 (M := 1792) (N := 18944) (V main_v69) x o * Spec.at2 (M := 56) (N := 18944) (V main_v0) ⟨x.val / 32, by omega⟩ o)
      + (∑ r, (∑ k, (inOf V).X i k * (inOf V).LA k r) * (inOf V).LB r o) * Spec.In.two := by
  unfold W2
  after_reads_at
  have e : ∀ (i : Fin 1792) h, (⟨i.val / 32 * 32 + i.val % 32, h⟩ : Fin 1792) = i := fun i h => Fin.ext (by show i.val / 32 * 32 + i.val % 32 = i.val; omega)
  simp only [e]
  rfl

/-- The reference's product. -/
theorem y_eq (i : Fin 1536) (o : Fin 18944) : (W2 (W1 V) main_v90 : Vec Ideal S1536x18944 .f32) (ix2 i o) = (inOf V).y i o := by
  rw [v90_apply]
  unfold Spec.In.y
  rw [← Spec.sum_even_odd]
  have eX : (inOf (W1 V)).X = (inOf V).X := funext fun _ => funext fun _ => congrFun (arg0_eq V) _
  have eL : (inOf (W1 V)).LA = (inOf V).LA := funext fun _ => funext fun _ => congrFun (arg3_eq V) _
  have eB : (inOf (W1 V)).LB = (inOf V).LB := funext fun _ => funext fun _ => congrFun (arg4_eq V) _
  rw [eX, eL, eB]
  refine congrArg (· + _) (congrArg₂ (· + ·) (Finset.sum_congr rfl fun x _ => congrArg (_ * ·) ?_) (Finset.sum_congr rfl fun x _ => congrArg (_ * ·) ?_))
  · refine (v38_apply V x o).trans ?_
    unfold Spec.In.wt
    have e1 : ∀ h, (⟨x.val * 2 / 2, h⟩ : Fin 1792) = x := fun h => Fin.ext (by show x.val * 2 / 2 = x.val; omega)
    have e2 : ∀ h h', (⟨x.val * 2 / 64, h⟩ : Fin 56) = ⟨x.val / 32, h'⟩ := fun h h' => Fin.ext (by show x.val * 2 / 64 = x.val / 32; omega)
    have e3 : x.val * 2 % 2 = 0 := by omega
    simp only [e1, e2 _ (show x.val / 32 < 56 by omega), e3]
  · refine (congrArg₂ (fun a b : EReal => a * b) (v69_apply V x o) (v0_apply V _ o)).trans ?_
    unfold Spec.In.wt
    have e1 : ∀ h, (⟨(x.val * 2 + 1) / 2, h⟩ : Fin 1792) = x := fun h => Fin.ext (by show (x.val * 2 + 1) / 2 = x.val; omega)
    have e2 : ∀ h h', (⟨(x.val * 2 + 1) / 64, h⟩ : Fin 56) = ⟨x.val / 32, h'⟩ := fun h h' => Fin.ext (by show (x.val * 2 + 1) / 64 = x.val / 32; omega)
    have e3 : (x.val * 2 + 1) % 2 = 1 := by omega
    simp only [e1, e2 _ (show x.val / 32 < 56 by omega), e3]

end Cert.Proof.RefValue

end
-- ==== Proof.RefScale.lean ====
module

public import proofs.«01_k».proof.Proof.RefValue

@[expose] public section

set_option pp.maxSteps 3000

noncomputable section

namespace Cert.Proof.RefValue

open Cert.ReferenceIdeal Cert.ReferenceIdeal.Gen
open Idealize.ShloMosaic Idealize.ShloMosaic.TcCoe Idealize.ShloMosaic.Tactic

variable (V : Valuation τ sig (Elt Ideal))

/-- The table's entry `k` has the bits of the power of two with exponent field `k + 2`. -/
theorem lit0_eq (k : Fin 246) : lit0 k = BitVec.ofNat 32 (k.val + 2) <<< (23 : ℕ) := by
  revert k; decide +kernel

/-- The reference's scale, of a row's greatest absolute value over 448. -/
def refScale (v : EReal) : EReal :=
  Scalar.select (IntOp.ori (BitVec.ofBool (decide (v < Ideal.ofBits .f32 0x00800000#32))) (BitVec.ofBool (decide (Ideal.ofBits .f32 0x7B800000#32 ≤ v)))) 1
    (Finset.univ.fold min (Ideal.ofBits .f32 0x7F800000#32) fun x : Fin 246 => if v < Ideal.ofBits .f32 (lit0 x) then Ideal.ofBits .f32 (lit0 x) else Ideal.ofBits .f32 0x7F800000#32)

/-- The reference's scale is the one that the kernel's search gives. -/
theorem refScale_eq (v : EReal) : refScale v = Scale.scale v := by
  rw [Scale.scale_eq v (Finset.univ.fold min (Ideal.ofBits .f32 0x7F800000#32) fun x : Fin 246 => if v < Ideal.ofBits .f32 (lit0 x) then Ideal.ofBits .f32 (lit0 x) else Ideal.ofBits .f32 0x7F800000#32)]
  · unfold refScale
    rw [show Ideal.ofBits .f32 0x00800000#32 = Scale.pw 1 from rfl, show Ideal.ofBits .f32 0x7B800000#32 = Scale.pw 247 from rfl]
    by_cases h1 : v < Scale.pw 1
    · rw [if_pos (.inl h1), decide_eq_true h1]
      by_cases h2 : Scale.pw 247 ≤ v
      · rw [decide_eq_true h2]; rfl
      · rw [decide_eq_false h2]; rfl
    · by_cases h2 : Scale.pw 247 ≤ v
      · rw [if_pos (.inr h2), decide_eq_false h1, decide_eq_true h2]; rfl
      · rw [if_neg (by tauto), decide_eq_false h1, decide_eq_false h2]; rfl
  · intro b
    have ht : Ideal.ofBits .f32 0x7F800000#32 = (⊤ : EReal) := Scale.pw_top
    have hl : ∀ k : Fin 246, Ideal.ofBits .f32 (lit0 k) = Scale.pw (k.val + 2) := fun k => by rw [lit0_eq]; rfl
    rw [Finset.le_fold_min, ht]
    simp only [hl]
    constructor
    · rintro ⟨_, h⟩ k hk1 hk2 hv
      have := h ⟨k - 2, by omega⟩ (Finset.mem_univ _)
      rw [show k - 2 + 2 = k by omega, if_pos hv] at this
      exact this
    · refine fun h => ⟨le_top, fun x _ => ?_⟩
      split
      · next hv => exact h _ (by omega) (by omega) hv
      · exact le_top

/-- The host's maximum of a row's absolute values. -/
theorem rowMax (x : Vec Ideal S1536x18944 .f32) (i : Fin 1536) :
    Host.reduce FloatOps.maximumf (Host.absf x) (constant S_ .f32 0xFF800000#32) reducesTo_S1536x18944_S1536_d1 h_S_ (ix1 i)
      = Finset.univ.fold max (Ideal.ofBits .f32 0xFF800000#32) fun o => max (Spec.at2 x i o) (-Spec.at2 x i o) := by
  pointwise
  rfl

/-- The host's minimum of a row. -/
theorem rowMin (x : Vec Ideal S1536x246 .f32) (i : Fin 1536) :
    Host.reduce FloatOps.minimumf x (constant S_ .f32 0x7F800000#32) reducesTo_S1536x246_S1536_d1 h_S_ (ix1 i)
      = Finset.univ.fold min (Ideal.ofBits .f32 0x7F800000#32) fun o => Spec.at2 x i o := by
  pointwise
  rfl

/-- The row maxima as one reduction. -/
theorem v92_eq : (W3 V main_v92 : Vec Ideal S1536 .f32) = Host.reduce (FloatOps.maximumf (F := Ideal) (φ := .f32)) (Host.absf (F := Ideal) (φ := .f32) (V main_v90 : Vec Ideal S1536x18944 .f32)) (constant (F := Ideal) S_ .f32 0xFF800000#32) reducesTo_S1536x18944_S1536_d1 h_S_ := by
  unfold W3
  after_reads_simp

/-- The least power above as one reduction. -/
theorem v101_eq : (W5 V main_v101 : Vec Ideal S1536 .f32) = Host.reduce (FloatOps.minimumf (F := Ideal) (φ := .f32)) (V main_v100 : Vec Ideal S1536x246 .f32) (constant (F := Ideal) S_ .f32 0x7F800000#32) reducesTo_S1536x246_S1536_d1 h_S_ := by
  unfold W5
  after_reads_simp

/-- A vector at a place. -/
def at1 {M : ℕ} (f : (⟨1, ![M]⟩ : Shape).Idx → EReal) (i : Fin M) : EReal := f (ix1 i)

/-- The quotient by 448. -/
theorem v95_apply (i : Fin 1536) : (W4 V main_v95 : Vec Ideal S1536x1 .f32) (ix2 i 0) = at1 (M := 1536) (V main_v92) i * Ideal.ofBits .f32 0x3B124925#32 := by
  unfold W4
  after_reads_at
  rfl

/-- A power of two where it is above the quotient, and infinity elsewhere. -/
theorem v100_apply (i : Fin 1536) (x : Fin 246) : (W4 V main_v100 : Vec Ideal S1536x246 .f32) (ix2 i x)
    = if at1 (M := 1536) (V main_v92) i * Ideal.ofBits .f32 0x3B124925#32 < at1 (M := 246) (V main_cst) x then at1 (M := 246) (V main_cst) x else Ideal.ofBits .f32 0x7F800000#32 := by
  unfold W4
  after_reads_at
  rfl

/-- The scale of the quotient `v` and the least power above it `a`. -/
def pick (v a : EReal) : EReal :=
  Scalar.select (IntOp.ori (BitVec.ofBool (decide (v < Ideal.ofBits .f32 0x00800000#32))) (BitVec.ofBool (decide (Ideal.ofBits .f32 0x7B800000#32 ≤ v)))) 1 a

/-- The scale chosen. -/
theorem v108_apply (i : Fin 1536) : (W6 V main_v108 : Vec Ideal S1536x1 .f32) (ix2 i 0) = pick (Spec.at2 (M := 1536) (N := 1) (V main_v95) i 0) (at1 (M := 1536) (V main_v101) i) := by
  unfold W6
  after_reads_at
  rfl

/-- The scales, laid out in rows of 128. -/
theorem v112_apply (a : Fin 12) (b : Fin 128) : (W6 V main_v112 : Vec Ideal S12x128 .f32) (ix2 a b) = pick (Spec.at2 (M := 1536) (N := 1) (V main_v95) ⟨a.val * 128 + b.val, by omega⟩ 0) (at1 (M := 1536) (V main_v101) ⟨a.val * 128 + b.val, by omega⟩) := by
  unfold W6
  after_reads_at
  rfl

/-- The inverse of the scale. -/
theorem v110_apply (i : Fin 1536) : (W6 V main_v110 : Vec Ideal S1536x1 .f32) (ix2 i 0) = Ideal.div 1 (pick (Spec.at2 (M := 1536) (N := 1) (V main_v95) i 0) (at1 (M := 1536) (V main_v101) i)) := by
  unfold W6
  after_reads_at
  rfl

/-- The product, cast. -/
theorem v111_apply (i : Fin 1536) (o : Fin 18944) : (W6 V main_v111 : Vec Ideal S1536x18944 .bf16) (ix2 i o) = Spec.at2 (M := 1536) (N := 18944) (V main_v90) i o := by
  unfold W6
  after_reads_at
  rfl

/-- The table is kept. -/
theorem cst2_eq : W2 V main_cst = V main_cst := by unfold W2; after_reads_simp
/-- The table is kept. -/
theorem cst3_eq : W3 V main_cst = V main_cst := by unfold W3; after_reads_simp
/-- The product is kept. -/
theorem v90_3_eq : W3 V main_v90 = V main_v90 := by unfold W3; after_reads_simp
/-- The product is kept. -/
theorem v90_4_eq : W4 V main_v90 = V main_v90 := by unfold W4; after_reads_simp
/-- The product is kept. -/
theorem v90_5_eq : W5 V main_v90 = V main_v90 := by unfold W5; after_reads_simp
/-- The product is kept. -/
theorem v90_6_eq : W6 V main_v90 = V main_v90 := by unfold W6; after_reads_simp
/-- The quotients are kept. -/
theorem v95_5_eq : W5 V main_v95 = V main_v95 := by unfold W5; after_reads_simp

end Cert.Proof.RefValue

end
-- ==== Proof.RefFinal.lean ====
module

public import proofs.«01_k».proof.Proof.RefScale
public import Idealize.ShloMosaic.Lib.Pipeline.ValueKit

@[expose] public section

set_option pp.maxSteps 3000

noncomputable section

namespace Cert.Proof.RefFinal

open Cert.ReferenceIdeal Cert.ReferenceIdeal.Gen Cert.ReferenceIdeal.Value
open Idealize.ShloMosaic Idealize.ShloMosaic.TcCoe Idealize.ShloMosaic.Tactic
open Idealize.SL Idealize.SL.Sem Cert.Proof.RefValue
open Idealize.ShloMosaic.Pipeline (Dat RDat Cfg Window cellOf)

/-! The reference's three results are the plain functions of the arguments. -/

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The parts into which the last lists of operations are cut. -/
theorem cut_lists {α : Type*} (a b d e f : List α) : [a, b, d, e, f].flatten
    = a.take 22 ++ ((a.drop 22).take 3 ++ ((a.drop 25 ++ b) ++ (d.take 2 ++ (d.drop 2 ++ (e ++ f))))) := by
  have h1 : (a.drop 22).take 3 ++ a.drop 25 = a.drop 22 := by
    have := List.take_append_drop 3 (a.drop 22)
    rwa [List.drop_drop] at this
  simp only [List.flatten_cons, List.flatten_nil, List.append_nil]
  rw [← List.append_assoc (d.take 2), List.take_append_drop, List.append_assoc (a.drop 25), ← List.append_assoc ((a.drop 22).take 3), h1, ← List.append_assoc (a.take 22), List.take_append_drop]

/-- A run of groups of operations may be cut into six runs. -/
theorem after_split (L : List (List (HloOp τ sig (Elt Ideal)))) (a b d e f : List (HloOp τ sig (Elt Ideal))) (V : Valuation τ sig (Elt Ideal)) :
    StableHlo.after (L ++ [a, b, d, e, f]).flatten V = StableHlo.after (d.drop 2 ++ (e ++ f)) (StableHlo.after (d.take 2) (StableHlo.after (a.drop 25 ++ b)
      (StableHlo.after ((a.drop 22).take 3) (StableHlo.after (a.take 22) (StableHlo.after L.flatten V))))) := by
  rw [List.flatten_append, cut_lists, after_append, after_append, after_append, after_append, after_append]

section
variable (V : Valuation τ sig (Elt Ideal))

/-- The product's buffer is kept to the end. -/
theorem v90_kept : W5 (W4 (W3 (W2 (W1 V)))) main_v90 = W2 (W1 V) main_v90 :=
  (v90_5_eq _).trans ((v90_4_eq _).trans (v90_3_eq _))

/-- The largest absolute value of each row. -/
theorem v92_apply (i : Fin 1536) : at1 (M := 1536) (W3 (W2 (W1 V)) main_v92) i = (inOf V).amax i := by
  refine (congrFun (v92_eq (W2 (W1 V))) (ix1 i)).trans ((rowMax _ i).trans ?_)
  unfold Spec.In.amax
  have hb : Ideal.ofBits .f32 0xFF800000#32 = (⊥ : EReal) := by
    simp [Ideal.ofBits, Ideal.ieee]
  rw [hb]
  refine congrArg (fun f => Finset.univ.fold max ⊥ f) (funext fun o => ?_)
  exact congrArg (fun x : EReal => max x (-x)) (y_eq V i o)

/-- The quotient by 448 of each row. -/
theorem v95_final (i : Fin 1536) : Spec.at2 (M := 1536) (N := 1) (W5 (W4 (W3 (W2 (W1 V)))) main_v95) i 0 = (inOf V).v i := by
  refine (congrFun (v95_5_eq _) (ix2 i 0)).trans ((v95_apply _ i).trans ?_)
  rw [v92_apply]
  rfl

/-- The table of powers of two is still there. -/
theorem cst_final (x : Fin 246) : at1 (M := 246) (W3 (W2 (W1 V)) main_cst) x = Ideal.ofBits .f32 (lit0 x) :=
  (congrFun ((cst3_eq _).trans (cst2_eq _)) (ix1 x)).trans (cst_apply V x)

/-- Choosing by the least entry above the quotient is the reference's scale. -/
theorem pick_eq (v : EReal) : pick v (Finset.univ.fold min (Ideal.ofBits .f32 0x7F800000#32) fun x : Fin 246 => if v < Ideal.ofBits .f32 (lit0 x) then Ideal.ofBits .f32 (lit0 x) else Ideal.ofBits .f32 0x7F800000#32) = refScale v := rfl

/-- What the reference chooses is the token's scale. -/
theorem pick_final (i : Fin 1536) : pick (Spec.at2 (M := 1536) (N := 1) (W5 (W4 (W3 (W2 (W1 V)))) main_v95) i 0) (at1 (M := 1536) (W5 (W4 (W3 (W2 (W1 V)))) main_v101) i)
    = (inOf V).scale i := by
  rw [v95_final]
  unfold Spec.In.scale
  rw [← refScale_eq]
  refine (congrArg (pick ((inOf V).v i)) ?_).trans (pick_eq _)
  refine (congrFun (v101_eq (W4 (W3 (W2 (W1 V))))) (ix1 i)).trans ((rowMin _ i).trans ?_)
  refine congrArg (fun f => Finset.univ.fold min (Ideal.ofBits .f32 0x7F800000#32) f) (funext fun x => ?_)
  refine (v100_apply (W3 (W2 (W1 V))) i x).trans ?_
  rw [v92_apply, cst_final]
  rfl

end

variable (m : (ℓ : Loc nD τ sig) → Buf (Elt Ideal) ℓ) (c : Dev nD)

/-- The arguments by coordinates, of the launch's memory. -/
def refIn : Spec.In := inOf fun b => m (c, b)

/-- The arrays before the last step, by six runs. -/
theorem V_eq (b : Ref sig .tc) : V m c b = W6 (W5 (W4 (W3 (W2 (W1 fun b => m (c, b)))))) b :=
  congrFun (after_split [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45] hostOps0_46 hostOps0_47 hostOps0_48 hostOps0_49 hostOps0_50 fun b => m (c, b)) b

/-- The product at an entry. -/
theorem y_final (i : Fin 1536) (o : Fin 18944) : (V m c main_v111 : Vec Ideal S1536x18944 .bf16) (ix2 i o) = (refIn m c).y i o := by
  refine (congrFun (V_eq m c main_v111) (ix2 i o)).trans ((v111_apply _ i o).trans ?_)
  exact (congrFun (v90_kept _) (ix2 i o)).trans (y_eq _ i o)

/-- The scale at an entry. -/
theorem scale_final (a : Fin 12) (b : Fin 128) : (V m c main_v112 : Vec Ideal S12x128 .f32) (ix2 a b) = (refIn m c).scale ⟨a.val * 128 + b.val, by omega⟩ := by
  refine (congrFun (V_eq m c main_v112) (ix2 a b)).trans ((v112_apply _ a b).trans ?_)
  exact pick_final _ _

/-- The inverse scale at an entry. -/
theorem inv_final (i : Fin 1536) : (V m c main_v110 : Vec Ideal S1536x1 .f32) (ix2 i 0) = Ideal.div 1 ((refIn m c).scale i) := by
  refine (congrFun (V_eq m c main_v110) (ix2 i 0)).trans ((v110_apply _ i).trans ?_)
  exact congrArg (Ideal.div 1) (pick_final _ _)

/-- The float32 product at an entry. -/
theorem prod_final (i : Fin 1536) (o : Fin 18944) : (V m c main_v90 : Vec Ideal S1536x18944 .f32) (ix2 i o) = (refIn m c).y i o := by
  refine (congrFun (V_eq m c main_v90) (ix2 i o)).trans ?_
  exact (congrFun ((v90_6_eq _).trans (v90_kept _)) (ix2 i o)).trans (y_eq _ i o)

end Cert.Proof.RefFinal

end
-- ==== Proof.RefCodes.lean ====
module

public import proofs.«01_k».proof.Proof.RefFinal
public import Idealize.ShloMosaic.Lib.Pipeline.ValueKit

@[expose] public section

set_option pp.maxSteps 3000

noncomputable section

namespace Cert.Proof.RefFinal

open Cert.ReferenceIdeal Cert.ReferenceIdeal.Gen Cert.ReferenceIdeal.Value
open Idealize.ShloMosaic Idealize.ShloMosaic.TcCoe Idealize.ShloMosaic.Tactic
open Idealize.SL Idealize.SL.Sem Cert.Proof.RefValue
open Idealize.ShloMosaic.Pipeline (Dat RDat Cfg Window cellOf)

/-! The reference's codes are the plain function of the arguments. -/

variable (m : (ℓ : Loc nD τ sig) → Buf (Elt Ideal) ℓ) (c : Dev nD)

/-- What the reference's last step leaves at an index. -/
theorem out_apply (x0 : Vec Ideal S1536x18944 .f32) (x1 : Vec Ideal S1536x1 .f32) (i : Fin 1536) (o : Fin 18944) :
    out0_2 x0 x1 (ix2 i o) = min (Ideal.ofBits .f32 0x43E00000#32) (max (Ideal.ofBits .f32 0xC3E00000#32) (Spec.at2 x0 i o * Spec.at2 x1 i 0)) := by
  unfold out0_2
  rw [canon2_eq]
  refine congrArg (fun x : EReal => min (Ideal.ofBits .f32 0x43E00000#32) (max (Ideal.ofBits .f32 0xC3E00000#32) x)) ?_
  refine congrArg₂ (fun x y : EReal => x * y) (congrArg x0 ?_) (congrArg x1 ?_)
  · funext a
    match a with
    | 0 => exact Fin.ext (by show 0 + 1 * i.val = i.val; omega)
    | 1 => exact Fin.ext (by show 0 + 1 * o.val = o.val; omega)
  · funext a
    match a with
    | 0 => exact Fin.ext (by show 0 + 1 * i.val = i.val; omega)
    | 1 => rfl

/-- The only block of each array starts at its origin. -/
theorem index0 : ∀ t : Fin cfg0.N, win0_0.index t = ![0, 0] := by decide +kernel
/-- The same of the second window. -/
theorem index1 : ∀ t : Fin cfg0.N, win0_1.index t = ![0, 0] := by decide +kernel
/-- The same of the third window. -/
theorem index2 : ∀ t : Fin cfg0.N, win0_2.index t = ![0, 0] := by decide +kernel

/-- The first window's block is the whole product. -/
theorem iblk0 (t : Fin cfg0.N) : (iblk m c 0 t : Vec Ideal S1536x18944 .f32) = V m c main_v90 := by
  funext y
  refine congrArg (V m c main_v90) ?_
  funext a
  refine Fin.ext ((Window.rect_emb_val win0_0 t y a).trans ?_)
  rw [index0]
  match a with
  | 0 => show 0 * 1536 + (y 0).val = (y 0).val; omega
  | 1 => show 0 * 18944 + (y 1).val = (y 1).val; omega

/-- The second window's block is its whole array. -/
theorem read1 (f : Vec Ideal S1536x1 .f32) (t : Fin cfg0.N) : (((cfg0.win 1).blk t).view.read (Elt Ideal) f : Vec Ideal S1536x1 .f32) = f := by
  funext y
  have h0 : (((cfg0.win 1).blk t).view.emb y 0).val = (y 0).val := by
    refine (Window.rect_emb_val win0_1 t y 0).trans ?_
    rw [index1]
    show 0 * 1536 + (y 0).val = (y 0).val; omega
  refine congrArg f ?_
  funext a
  match a with
  | 0 => exact Fin.ext h0
  | 1 => exact Subsingleton.elim (α := Fin 1) _ _

/-- The second window's block is the whole column of inverse scales. -/
theorem iblk1 (t : Fin cfg0.N) : (iblk m c 1 t : Vec Ideal S1536x1 .f32) = V m c main_v110 := read1 (V m c main_v110) t

/-- The codes. -/
theorem code_final : (dats m 0 c).arrAt 2 cfg0.N = (fun i => (refIn m c).code ⟨(i 0).val, (i 0).isLt⟩ ⟨(i 1).val, (i 1).isLt⟩ : Vec Ideal S1536x18944 .fp8e4m3) := by
  refine Dat.arrAt_eq_of_covers (dats m 0 c) 2 _ (by decide +kernel) fun t hf y => ?_
  have h0 : (y 0).val < 1536 := (y 0).isLt
  have h1 : (y 1).val < 18944 := (y 1).isLt
  have e0 : ((((cfg0.win 2).blk t).view.emb y) 0).val = (y 0).val := by
    refine (Window.rect_emb_val win0_2 t y 0).trans ?_
    rw [index2]; show 0 * 1536 + (y 0).val = (y 0).val; omega
  have e1 : ((((cfg0.win 2).blk t).view.emb y) 1).val = (y 1).val := by
    refine (Window.rect_emb_val win0_2 t y 1).trans ?_
    rw [index2]; show 0 * 18944 + (y 1).val = (y 1).val; omega
  refine (show _ = (dats m 0 c).after 2 t (ix2 ⟨(y 0).val, h0⟩ ⟨(y 1).val, h1⟩) from congrArg ((dats m 0 c).after 2 t) (by funext a; match a with | 0 => rfl | 1 => rfl)).trans ?_
  rw [after0_2]
  refine (out_apply _ _ _ _).trans ?_
  refine (congrArg (fun x : EReal => min (Ideal.ofBits .f32 0x43E00000#32) (max (Ideal.ofBits .f32 0xC3E00000#32) x))
    (congrArg₂ (fun x y : EReal => x * y) ((congrFun (iblk0 m c t) _).trans (prod_final m c _ _)) ((congrFun (iblk1 m c t) _).trans (inv_final m c _)))).trans ?_
  exact congrArg₂ (refIn m c).code (Fin.ext e0.symm) (Fin.ext e1.symm)

end Cert.Proof.RefFinal

end
-- ==== Proof.RefArrays.lean ====
module

public import proofs.«01_k».proof.Proof.Value
public import proofs.«01_k».proof.Proof.RefCodes
public import Idealize.ShloMosaic.Lib.Pipeline.Value

@[expose] public section

set_option pp.maxSteps 3000

noncomputable section

namespace Cert.Proof.RefArrays

open Cert.ReferenceIdeal Cert.ReferenceIdeal.Gen
open Idealize.ShloMosaic Idealize.ShloMosaic.TcCoe
open Idealize.SL Idealize.SL.Sem Cert.Proof.RefValue Cert.Proof.RefFinal

/-! The reference's three results are the plain functions of the arguments. -/

variable (m : (ℓ : Loc nD τ sig) → Buf (Elt Ideal) ℓ) {r : PUnit × MemSt nD τ sig (Elt Ideal)} (h : Pipeline.FramePost cfgs (dats m) 0 (V m) r) (c : Dev nD)
include h

/-- The reference's product array. -/
theorem arrY : r.2.mem ((c.tc : Thread nD τ).loc main_v111) = Value.resY (refIn m c) := by
  refine ((h c).2 main_v111 (Pipeline.mem_restRefs_of main_v111 (by decide) (by decide))).trans ?_
  funext i
  refine (congrArg (V m c main_v111 : Vec Ideal S1536x18944 .bf16) (show i = ix2 ⟨(i 0).val, (i 0).isLt⟩ ⟨(i 1).val, (i 1).isLt⟩ from by funext a; match a with | 0 => rfl | 1 => rfl)).trans ?_
  exact y_final m c _ _

/-- The reference's scales. -/
theorem arrS : r.2.mem ((c.tc : Thread nD τ).loc main_v112) = Value.resS (refIn m c) := by
  refine ((h c).2 main_v112 (Pipeline.mem_restRefs_of main_v112 (by decide) (by decide))).trans ?_
  funext i
  refine (congrArg (V m c main_v112 : Vec Ideal S12x128 .f32) (show i = ix2 ⟨(i 0).val, (i 0).isLt⟩ ⟨(i 1).val, (i 1).isLt⟩ from by funext a; match a with | 0 => rfl | 1 => rfl)).trans ?_
  exact scale_final m c _ _

/-- The reference's codes. -/
theorem arrC : r.2.mem ((c.tc : Thread nD τ).loc main_v113) = Value.resC (refIn m c) :=
  (Cert.ReferenceIdeal.Value.post2 m r h c).trans (code_final m c)

end Cert.Proof.RefArrays

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.KernelFrame
public import proofs.«01_k».proof.Proof.RefArrays
public import Idealize.ShloMosaic.Adequacy
public import Idealize.ShloMosaic.Init

@[expose] public section

noncomputable section

namespace Cert.Proof

open Idealize.ShloMosaic Idealize.SL.Sem Cert.Kernel

/-- Equal arguments are equal by coordinates. -/
theorem refIn_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    RefFinal.refIn m' c = Value.argsIn m c := by
  have mk : ∀ (I J : Spec.In), I.X = J.X → I.W = J.W → I.A = J.A → I.LA = J.LA → I.LB = J.LB → I = J := by
    rintro ⟨_, _, _, _, _⟩ ⟨_, _, _, _, _⟩ h0 h1 h2 h3 h4
    cases h0; cases h1; cases h2; cases h3; cases h4; rfl
  refine mk _ _ ?_ ?_ ?_ ?_ ?_
  · funext s k; exact congrFun h0 _
  · funext i o; exact congrFun h1 _
  · funext i o; exact congrFun h2 _
  · funext i o; exact congrFun h3 _
  · funext i o; exact congrFun h4 _

/-- The kernel's three results and the reference's are equal as extended reals. -/
theorem algebraic : Cert.algebraic_KernelIdeal_ReferenceIdeal (hKernelIdeal := Cert.KernelIdeal.Gen.facts) (hReferenceIdeal := Cert.ReferenceIdeal.Gen.facts) := by
  intro m g m' g' _ hargs
  have hI : ∀ c, RefFinal.refIn m' c = Value.argsIn m c := fun c =>
    refIn_eq m m' c (hargs c).1 (hargs c).2.1 (hargs c).2.2.1 (hargs c).2.2.2.1 (hargs c).2.2.2.2
  refine ⟨fun c => Value.resY (Value.argsIn m c), fun c => Value.resC (Value.argsIn m c), fun c => Value.resS (Value.argsIn m c), ?_, ?_⟩
  · refine (θ_run _ _ _).mono (fun r h c => ?_) (Run.run m g)
    exact ⟨(Arrays.arr5 h.1 c).trans (Value.whole5_eq m c), (Arrays.arr6 h.1 c).trans (Value.whole6_eq m c),
      (Arrays.arr7 h.1 c).trans (Value.whole7_eq m c), Run.kept m h.1 c⟩
  · refine (θ_run _ _ _).mono (fun r h c => ?_) (Cert.ReferenceIdeal.Gen.run_main m' g')
    exact ⟨(RefArrays.arrY m' h c).trans (congrArg Value.resY (hI c)), (RefArrays.arrC m' h c).trans (congrArg Value.resC (hI c)),
      (RefArrays.arrS m' h c).trans (congrArg Value.resS (hI c)),
      Cert.ReferenceIdeal.Value.kept_main_arg0 m' r h c, Cert.ReferenceIdeal.Value.kept_main_arg1 m' r h c, Cert.ReferenceIdeal.Value.kept_main_arg2 m' r h c,
      Cert.ReferenceIdeal.Value.kept_main_arg3 m' r h c, Cert.ReferenceIdeal.Value.kept_main_arg4 m' r h c⟩

/-- The kernel at exact arithmetic runs, keeps its arguments and ends with every counter at zero. -/
theorem idealFrame : Cert.quiescent_KernelIdeal (hKernelIdeal := Cert.KernelIdeal.Gen.facts) := fun m g _ =>
  (θ_run _ _ _).mono (fun r h => ⟨fun c => Run.kept m h.1 c, h.2⟩) (Run.run m g)

theorem claim : Cert.Claim := ⟨Cert.Kernel.Gen.facts, Cert.KernelIdeal.Gen.facts, Cert.ReferenceIdeal.Gen.facts,
  fun m g _ => KernelFrame.frame m g, idealFrame, fun m g _ => Cert.ReferenceIdeal.Gen.frame m g, trivial, algebraic⟩

end Cert.Proof

end
